-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x200 : Shape := ⟨2, ![16384, 200]⟩
abbrev S64 : Shape := ⟨1, ![64]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : FVec F S16384x200 .f32) (main_arg1 : FVec F S64 .f32) : IVec S_ 1 :=
  let main_cst : FVec F S_ .f32 := constant S_ .f32 0x00000000#32
  let main_v0 : FVec F S16384x200 .f32 := broadcastInDim S16384x200 ![] bcast_S_S16384x200 main_cst
  let main_v1 : IVec S16384x200 1 := cmpf .oge main_arg0 main_v0
  let main_c : IVec S_ 1 := constantI S_ 1 1#1
  let main_v2 : IVec S_ 1 := (fun x v => Host.reduce IntOp.andi x v reducesTo_S16384x200_S_d0_1 h_S_) main_v1 main_c
  let main_cst_0 : FVec F S_ .f32 := constant S_ .f32 0x3F800000#32
  let main_v3 : FVec F S16384x200 .f32 := broadcastInDim S16384x200 ![] bcast_S_S16384x200 main_cst_0
  let main_v4 : IVec S16384x200 1 := cmpf .ole main_arg0 main_v3
  let main_c_1 : IVec S_ 1 := constantI S_ 1 1#1
  let main_v5 : IVec S_ 1 := (fun x v => Host.reduce IntOp.andi x v reducesTo_S16384x200_S_d0_1 h_S_) main_v4 main_c_1
  let main_v6 : IVec S_ 1 := andi main_v2 main_v5
  main_v6
-- ==== Kernel.lean ====
abbrev S16384x200 : Shape := ⟨2, ![16384, 200]⟩
abbrev S64 : Shape := ⟨1, ![64]⟩
abbrev S1 : Shape := ⟨1, ![1]⟩
abbrev S63 : Shape := ⟨1, ![63]⟩
abbrev S62 : Shape := ⟨1, ![62]⟩
abbrev S_ : Shape := ⟨0, ![]⟩
abbrev S64x16 : Shape := ⟨2, ![64, 16]⟩
abbrev S1024 : Shape := ⟨1, ![1024]⟩
abbrev S1x1024 : Shape := ⟨2, ![1, 1024]⟩
abbrev S4x1024 : Shape := ⟨2, ![4, 1024]⟩
abbrev S3x64x200 : Shape := ⟨3, ![3, 64, 200]⟩
abbrev S3 : Shape := ⟨1, ![3]⟩
abbrev S1x64x200 : Shape := ⟨3, ![1, 64, 200]⟩
abbrev S64x200 : Shape := ⟨2, ![64, 200]⟩
abbrev S16 : Shape := ⟨1, ![16]⟩
abbrev S1x1x16 : Shape := ⟨3, ![1, 1, 16]⟩

abbrev nBuf : Table → Nat
  | .hbm => 58
  | .local .scVector .vmem => 6
  | _ => 0

abbrev bufTy : (tb : Table) → Fin (nBuf tb) → BufTy
  | .hbm, ⟨0, _⟩ => ⟨S16384x200, .f32⟩
  | .hbm, ⟨1, _⟩ => ⟨S64, .f32⟩
  | .hbm, ⟨2, _⟩ => ⟨S1, .f32⟩
  | .hbm, ⟨3, _⟩ => ⟨S63, .f32⟩
  | .hbm, ⟨4, _⟩ => ⟨S64, .f32⟩
  | .hbm, ⟨5, _⟩ => ⟨S63, .f32⟩
  | .hbm, ⟨6, _⟩ => ⟨S1, .f32⟩
  | .hbm, ⟨7, _⟩ => ⟨S64, .f32⟩
  | .hbm, ⟨8, _⟩ => ⟨S62, .f32⟩
  | .hbm, ⟨9, _⟩ => ⟨S1, .f32⟩
  | .hbm, ⟨10, _⟩ => ⟨S1, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64x16, .f32⟩
  | .hbm, ⟨45, _⟩ => ⟨S1024, .f32⟩
  | .hbm, ⟨46, _⟩ => ⟨S64x16, .f32⟩
  | .hbm, ⟨47, _⟩ => ⟨S1024, .f32⟩
  | .hbm, ⟨48, _⟩ => ⟨S64x16, .f32⟩
  | .hbm, ⟨49, _⟩ => ⟨S1024, .f32⟩
  | .hbm, ⟨50, _⟩ => ⟨S64x16, .f32⟩
  | .hbm, ⟨51, _⟩ => ⟨S1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S4x1024, .f32⟩
  | .hbm, ⟨57, _⟩ => ⟨S16384x200, .f32⟩
  | .local .scVector .vmem, ⟨0, _⟩ => ⟨S1024, .f32⟩
  | .local .scVector .vmem, ⟨1, _⟩ => ⟨S1024, .f32⟩
  | .local .scVector .vmem, ⟨2, _⟩ => ⟨S1024, .f32⟩
  | .local .scVector .vmem, ⟨3, _⟩ => ⟨S1024, .f32⟩
  | .local .scVector .vmem, ⟨4, _⟩ => ⟨S3x64x200, .f32⟩
  | .local .scVector .vmem, ⟨5, _⟩ => ⟨S3x64x200, .f32⟩
  | _, _ => ⟨S16384x200, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v46_scv : Ref sig .scVector := ⟨.hbm, 56, rfl⟩
abbrev main_arg0_scv : Ref sig .scVector := ⟨.hbm, 0, rfl⟩
abbrev main_v47_scv : Ref sig .scVector := ⟨.hbm, 57, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_4 : BitVec 32 := 0#32
  ![v3.toNat, 0]
@[reducible] def k0_t1_loop : Scf.Loop 32 :=
  let c0_i32_26 : BitVec 32 := 0#32
  let c8_i32 : BitVec 32 := 8#32
  let v31 : BitVec 32 := Scalar.addi c0_i32_26 c8_i32
  let c1_i32_27 : BitVec 32 := 1#32
  ⟨c0_i32_26, v31, c1_i32_27⟩
def k0_off2 (k0_t1 : Fin k0_t1_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let c0_i32_54 : BitVec 32 := 0#32
  let c0_i32_55 : BitVec 32 := 0#32
  ![v56.toNat, 0, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_56 : BitVec 32 := 0#32
  ![v2.toNat, 0]
def k0_off4 (k0_t1 : Fin k0_t1_loop.trips) : Fin 1 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  ![v56.toNat]
def k0_cond1 (k0_t1 : Fin k0_t1_loop.trips) : BitVec 1 :=
  let c0_i32_26 : BitVec 32 := 0#32
  let c1_i32_27 : BitVec 32 := 1#32
  let arg13 : BitVec 32 := Scf.iv c0_i32_26 c1_i32_27 k0_t1
  let c3_i32_60 : BitVec 32 := 3#32
  let v65 : BitVec 1 := Scalar.cmpi .sge arg13 c3_i32_60
  let v66 : BitVec 32 := Scalar.extui v65
  let c0_i32_61 : BitVec 32 := 0#32
  let v67 : BitVec 1 := Scalar.cmpi .ne v66 c0_i32_61
  v67

def k0_off5 (k0_t1 : Fin k0_t1_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let c0_i32_76 : BitVec 32 := 0#32
  let c0_i32_77 : BitVec 32 := 0#32
  ![v56.toNat, 0, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_78 : BitVec 32 := 0#32
  ![v2.toNat, 0]
def k0_off7 (k0_t1 : Fin k0_t1_loop.trips) : Fin 1 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  ![v56.toNat]
@[reducible] def k0_t2_loop : Scf.Loop 32 :=
  let c0_i32_62 : BitVec 32 := 0#32
  let c64_i32_63 : BitVec 32 := 64#32
  let v68 : BitVec 32 := Scalar.addi c0_i32_62 c64_i32_63
  let c1_i32_64 : BitVec 32 := 1#32
  ⟨c0_i32_62, v68, c1_i32_64⟩
def k0_off8 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v85 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v86 : Index := Scalar.indexCast v84
  let c0 : Index := 0#32
  ![v85.toNat, v86.toNat, 0]

def k0_chk1 (v99 : IVec S16 32) : Prop :=
  (∀ a x, ((![v99] : Fin 1 → IVec S16 32) a x).toNat < S1024.size a) ∧
  (∀ a x, ((![v99] : Fin 1 → IVec S16 32) a x).toNat < S1024.size a) ∧
  (∀ a x, ((![v99] : Fin 1 → IVec S16 32) a x).toNat < S1024.size a) ∧
  (∀ a x, ((![v99] : Fin 1 → IVec S16 32) a x).toNat < S1024.size a)
theorem k0_idx1_inb : ∀ (v99 : IVec S16 32) (k0_hw1 : k0_chk1 v99), ∀ a x, ((![v99] : Fin 1 → IVec S16 32) a x).toNat < S1024.size a := fun v99 k0_hw1 => k0_hw1.1
theorem k0_idx2_inb : ∀ (v99 : IVec S16 32) (k0_hw1 : k0_chk1 v99), ∀ a x, ((![v99] : Fin 1 → IVec S16 32) a x).toNat < S1024.size a := fun v99 k0_hw1 => k0_hw1.2.1
theorem k0_idx3_inb : ∀ (v99 : IVec S16 32) (k0_hw1 : k0_chk1 v99), ∀ a x, ((![v99] : Fin 1 → IVec S16 32) a x).toNat < S1024.size a := fun v99 k0_hw1 => k0_hw1.2.2.1
theorem k0_idx4_inb : ∀ (v99 : IVec S16 32) (k0_hw1 : k0_chk1 v99), ∀ a x, ((![v99] : Fin 1 → IVec S16 32) a x).toNat < S1024.size a := fun v99 k0_hw1 => k0_hw1.2.2.2
def k0_off9 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v110 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v111 : Index := Scalar.indexCast v84
  let c0_79 : Index := 0#32
  ![v110.toNat, v111.toNat, 0]
def k0_off10 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v113 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v114 : Index := Scalar.indexCast v84
  let c16 : Index := 16#32
  ![v113.toNat, v114.toNat, 16]

def k0_chk2 (v127 : IVec S16 32) : Prop :=
  (∀ a x, ((![v127] : Fin 1 → IVec S16 32) a x).toNat < S1024.size a) ∧
  (∀ a x, ((![v127] : Fin 1 → IVec S16 32) a x).toNat < S1024.size a) ∧
  (∀ a x, ((![v127] : Fin 1 → IVec S16 32) a x).toNat < S1024.size a) ∧
  (∀ a x, ((![v127] : Fin 1 → IVec S16 32) a x).toNat < S1024.size a)
theorem k0_idx5_inb : ∀ (v127 : IVec S16 32) (k0_hw2 : k0_chk2 v127), ∀ a x, ((![v127] : Fin 1 → IVec S16 32) a x).toNat < S1024.size a := fun v127 k0_hw2 => k0_hw2.1
theorem k0_idx6_inb : ∀ (v127 : IVec S16 32) (k0_hw2 : k0_chk2 v127), ∀ a x, ((![v127] : Fin 1 → IVec S16 32) a x).toNat < S1024.size a := fun v127 k0_hw2 => k0_hw2.2.1
theorem k0_idx7_inb : ∀ (v127 : IVec S16 32) (k0_hw2 : k0_chk2 v127), ∀ a x, ((![v127] : Fin 1 → IVec S16 32) a x).toNat < S1024.size a := fun v127 k0_hw2 => k0_hw2.2.2.1
theorem k0_idx8_inb : ∀ (v127 : IVec S16 32) (k0_hw2 : k0_chk2 v127), ∀ a x, ((![v127] : Fin 1 → IVec S16 32) a x).toNat < S1024.size a := fun v127 k0_hw2 => k0_hw2.2.2.2
def k0_off11 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v138 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v139 : Index := Scalar.indexCast v84
  let c16_83 : Index := 16#32
  ![v138.toNat, v139.toNat, 16]
def k0_off12 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v141 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v142 : Index := Scalar.indexCast v84
  let c32 : Index := 32#32
  ![v141.toNat, v142.toNat, 32]

def k0_chk3 (v155 : IVec S16 32) : Prop :=
  (∀ a x, ((![v155] : Fin 1 → IVec S16 32) a x).toNat < S1024.size a) ∧
  (∀ a x, ((![v155] : Fin 1 → IVec S16 32) a x).toNat < S1024.size a) ∧
  (∀ a x, ((![v155] : Fin 1 → IVec S16 32) a x).toNat < S1024.size a) ∧
  (∀ a x, ((![v155] : Fin 1 → IVec S16 32) a x).toNat < S1024.size a)
theorem k0_idx9_inb : ∀ (v155 : IVec S16 32) (k0_hw3 : k0_chk3 v155), ∀ a x, ((![v155] : Fin 1 → IVec S16 32) a x).toNat < S1024.size a := fun v155 k0_hw3 => k0_hw3.1
theorem k0_idx10_inb : ∀ (v155 : IVec S16 32) (k0_hw3 : k0_chk3 v155), ∀ a x, ((![v155] : Fin 1 → IVec S16 32) a x).toNat < S1024.size a := fun v155 k0_hw3 => k0_hw3.2.1
theorem k0_idx11_inb : ∀ (v155 : IVec S16 32) (k0_hw3 : k0_chk3 v155), ∀ a x, ((![v155] : Fin 1 → IVec S16 32) a x).toNat < S1024.size a := fun v155 k0_hw3 => k0_hw3.2.2.1
theorem k0_idx12_inb : ∀ (v155 : IVec S16 32) (k0_hw3 : k0_chk3 v155), ∀ a x, ((![v155] : Fin 1 → IVec S16 32) a x).toNat < S1024.size a := fun v155 k0_hw3 => k0_hw3.2.2.2
def k0_off13 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v166 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v167 : Index := Scalar.indexCast v84
  let c32_87 : Index := 32#32
  ![v166.toNat, v167.toNat, 32]
def k0_off14 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v169 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v170 : Index := Scalar.indexCast v84
  let c48 : Index := 48#32
  ![v169.toNat, v170.toNat, 48]

def k0_chk4 (v183 : IVec S16 32) : Prop :=
  (∀ a x, ((![v183] : Fin 1 → IVec S16 32) a x).toNat < S1024.size a) ∧
  (∀ a x, ((![v183] : Fin 1 → IVec S16 32) a x).toNat < S1024.size a) ∧
  (∀ a x, ((![v183] : Fin 1 → IVec S16 32) a x).toNat < S1024.size a) ∧
  (∀ a x, ((![v183] : Fin 1 → IVec S16 32) a x).toNat < S1024.size a)
theorem k0_idx13_inb : ∀ (v183 : IVec S16 32) (k0_hw4 : k0_chk4 v183), ∀ a x, ((![v183] : Fin 1 → IVec S16 32) a x).toNat < S1024.size a := fun v183 k0_hw4 => k0_hw4.1
theorem k0_idx14_inb : ∀ (v183 : IVec S16 32) (k0_hw4 : k0_chk4 v183), ∀ a x, ((![v183] : Fin 1 → IVec S16 32) a x).toNat < S1024.size a := fun v183 k0_hw4 => k0_hw4.2.1
theorem k0_idx15_inb : ∀ (v183 : IVec S16 32) (k0_hw4 : k0_chk4 v183), ∀ a x, ((![v183] : Fin 1 → IVec S16 32) a x).toNat < S1024.size a := fun v183 k0_hw4 => k0_hw4.2.2.1
theorem k0_idx16_inb : ∀ (v183 : IVec S16 32) (k0_hw4 : k0_chk4 v183), ∀ a x, ((![v183] : Fin 1 → IVec S16 32) a x).toNat < S1024.size a := fun v183 k0_hw4 => k0_hw4.2.2.2
def k0_off15 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v194 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v195 : Index := Scalar.indexCast v84
  let c48_91 : Index := 48#32
  ![v194.toNat, v195.toNat, 48]
def k0_off16 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v197 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v198 : Index := Scalar.indexCast v84
  let c64 : Index := 64#32
  ![v197.toNat, v198.toNat, 64]

def k0_chk5 (v211 : IVec S16 32) : Prop :=
  (∀ a x, ((![v211] : Fin 1 → IVec S16 32) a x).toNat < S1024.size a) ∧
  (∀ a x, ((![v211] : Fin 1 → IVec S16 32) a x).toNat < S1024.size a) ∧
  (∀ a x, ((![v211] : Fin 1 → IVec S16 32) a x).toNat < S1024.size a) ∧
  (∀ a x, ((![v211] : Fin 1 → IVec S16 32) a x).toNat < S1024.size a)
theorem k0_idx17_inb : ∀ (v211 : IVec S16 32) (k0_hw5 : k0_chk5 v211), ∀ a x, ((![v211] : Fin 1 → IVec S16 32) a x).toNat < S1024.size a := fun v211 k0_hw5 => k0_hw5.1
theorem k0_idx18_inb : ∀ (v211 : IVec S16 32) (k0_hw5 : k0_chk5 v211), ∀ a x, ((![v211] : Fin 1 → IVec S16 32) a x).toNat < S1024.size a := fun v211 k0_hw5 => k0_hw5.2.1
theorem k0_idx19_inb : ∀ (v211 : IVec S16 32) (k0_hw5 : k0_chk5 v211), ∀ a x, ((![v211] : Fin 1 → IVec S16 32) a x).toNat < S1024.size a := fun v211 k0_hw5 => k0_hw5.2.2.1
theorem k0_idx20_inb : ∀ (v211 : IVec S16 32) (k0_hw5 : k0_chk5 v211), ∀ a x, ((![v211] : Fin 1 → IVec S16 32) a x).toNat < S1024.size a := fun v211 k0_hw5 => k0_hw5.2.2.2
def k0_off17 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v222 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v223 : Index := Scalar.indexCast v84
  let c64_95 : Index := 64#32
  ![v222.toNat, v223.toNat, 64]
def k0_off18 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v225 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v226 : Index := Scalar.indexCast v84
  let c80 : Index := 80#32
  ![v225.toNat, v226.toNat, 80]

def k0_chk6 (v239 : IVec S16 32) : Prop :=
  (∀ a x, ((![v239] : Fin 1 → IVec S16 32) a x).toNat < S1024.size a) ∧
  (∀ a x, ((![v239] : Fin 1 → IVec S16 32) a x).toNat < S1024.size a) ∧
  (∀ a x, ((![v239] : Fin 1 → IVec S16 32) a x).toNat < S1024.size a) ∧
  (∀ a x, ((![v239] : Fin 1 → IVec S16 32) a x).toNat < S1024.size a)
theorem k0_idx21_inb : ∀ (v239 : IVec S16 32) (k0_hw6 : k0_chk6 v239), ∀ a x, ((![v239] : Fin 1 → IVec S16 32) a x).toNat < S1024.size a := fun v239 k0_hw6 => k0_hw6.1
theorem k0_idx22_inb : ∀ (v239 : IVec S16 32) (k0_hw6 : k0_chk6 v239), ∀ a x, ((![v239] : Fin 1 → IVec S16 32) a x).toNat < S1024.size a := fun v239 k0_hw6 => k0_hw6.2.1
theorem k0_idx23_inb : ∀ (v239 : IVec S16 32) (k0_hw6 : k0_chk6 v239), ∀ a x, ((![v239] : Fin 1 → IVec S16 32) a x).toNat < S1024.size a := fun v239 k0_hw6 => k0_hw6.2.2.1
theorem k0_idx24_inb : ∀ (v239 : IVec S16 32) (k0_hw6 : k0_chk6 v239), ∀ a x, ((![v239] : Fin 1 → IVec S16 32) a x).toNat < S1024.size a := fun v239 k0_hw6 => k0_hw6.2.2.2
def k0_off19 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v250 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v251 : Index := Scalar.indexCast v84
  let c80_99 : Index := 80#32
  ![v250.toNat, v251.toNat, 80]
def k0_off20 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v253 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v254 : Index := Scalar.indexCast v84
  let c96 : Index := 96#32
  ![v253.toNat, v254.toNat, 96]

def k0_chk7 (v267 : IVec S16 32) : Prop :=
  (∀ a x, ((![v267] : Fin 1 → IVec S16 32) a x).toNat < S1024.size a) ∧
  (∀ a x, ((![v267] : Fin 1 → IVec S16 32) a x).toNat < S1024.size a) ∧
  (∀ a x, ((![v267] : Fin 1 → IVec S16 32) a x).toNat < S1024.size a) ∧
  (∀ a x, ((![v267] : Fin 1 → IVec S16 32) a x).toNat < S1024.size a)
theorem k0_idx25_inb : ∀ (v267 : IVec S16 32) (k0_hw7 : k0_chk7 v267), ∀ a x, ((![v267] : Fin 1 → IVec S16 32) a x).toNat < S1024.size a := fun v267 k0_hw7 => k0_hw7.1
theorem k0_idx26_inb : ∀ (v267 : IVec S16 32) (k0_hw7 : k0_chk7 v267), ∀ a x, ((![v267] : Fin 1 → IVec S16 32) a x).toNat < S1024.size a := fun v267 k0_hw7 => k0_hw7.2.1
theorem k0_idx27_inb : ∀ (v267 : IVec S16 32) (k0_hw7 : k0_chk7 v267), ∀ a x, ((![v267] : Fin 1 → IVec S16 32) a x).toNat < S1024.size a := fun v267 k0_hw7 => k0_hw7.2.2.1
theorem k0_idx28_inb : ∀ (v267 : IVec S16 32) (k0_hw7 : k0_chk7 v267), ∀ a x, ((![v267] : Fin 1 → IVec S16 32) a x).toNat < S1024.size a := fun v267 k0_hw7 => k0_hw7.2.2.2
def k0_off21 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v278 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v279 : Index := Scalar.indexCast v84
  let c96_103 : Index := 96#32
  ![v278.toNat, v279.toNat, 96]
def k0_off22 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v281 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v282 : Index := Scalar.indexCast v84
  let c112 : Index := 112#32
  ![v281.toNat, v282.toNat, 112]

def k0_chk8 (v295 : IVec S16 32) : Prop :=
  (∀ a x, ((![v295] : Fin 1 → IVec S16 32) a x).toNat < S1024.size a) ∧
  (∀ a x, ((![v295] : Fin 1 → IVec S16 32) a x).toNat < S1024.size a) ∧
  (∀ a x, ((![v295] : Fin 1 → IVec S16 32) a x).toNat < S1024.size a) ∧
  (∀ a x, ((![v295] : Fin 1 → IVec S16 32) a x).toNat < S1024.size a)
theorem k0_idx29_inb : ∀ (v295 : IVec S16 32) (k0_hw8 : k0_chk8 v295), ∀ a x, ((![v295] : Fin 1 → IVec S16 32) a x).toNat < S1024.size a := fun v295 k0_hw8 => k0_hw8.1
theorem k0_idx30_inb : ∀ (v295 : IVec S16 32) (k0_hw8 : k0_chk8 v295), ∀ a x, ((![v295] : Fin 1 → IVec S16 32) a x).toNat < S1024.size a := fun v295 k0_hw8 => k0_hw8.2.1
theorem k0_idx31_inb : ∀ (v295 : IVec S16 32) (k0_hw8 : k0_chk8 v295), ∀ a x, ((![v295] : Fin 1 → IVec S16 32) a x).toNat < S1024.size a := fun v295 k0_hw8 => k0_hw8.2.2.1
theorem k0_idx32_inb : ∀ (v295 : IVec S16 32) (k0_hw8 : k0_chk8 v295), ∀ a x, ((![v295] : Fin 1 → IVec S16 32) a x).toNat < S1024.size a := fun v295 k0_hw8 => k0_hw8.2.2.2
def k0_off23 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v306 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v307 : Index := Scalar.indexCast v84
  let c112_107 : Index := 112#32
  ![v306.toNat, v307.toNat, 112]
def k0_off24 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v309 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v310 : Index := Scalar.indexCast v84
  let c128 : Index := 128#32
  ![v309.toNat, v310.toNat, 128]

def k0_chk9 (v323 : IVec S16 32) : Prop :=
  (∀ a x, ((![v323] : Fin 1 → IVec S16 32) a x).toNat < S1024.size a) ∧
  (∀ a x, ((![v323] : Fin 1 → IVec S16 32) a x).toNat < S1024.size a) ∧
  (∀ a x, ((![v323] : Fin 1 → IVec S16 32) a x).toNat < S1024.size a) ∧
  (∀ a x, ((![v323] : Fin 1 → IVec S16 32) a x).toNat < S1024.size a)
theorem k0_idx33_inb : ∀ (v323 : IVec S16 32) (k0_hw9 : k0_chk9 v323), ∀ a x, ((![v323] : Fin 1 → IVec S16 32) a x).toNat < S1024.size a := fun v323 k0_hw9 => k0_hw9.1
theorem k0_idx34_inb : ∀ (v323 : IVec S16 32) (k0_hw9 : k0_chk9 v323), ∀ a x, ((![v323] : Fin 1 → IVec S16 32) a x).toNat < S1024.size a := fun v323 k0_hw9 => k0_hw9.2.1
theorem k0_idx35_inb : ∀ (v323 : IVec S16 32) (k0_hw9 : k0_chk9 v323), ∀ a x, ((![v323] : Fin 1 → IVec S16 32) a x).toNat < S1024.size a := fun v323 k0_hw9 => k0_hw9.2.2.1
theorem k0_idx36_inb : ∀ (v323 : IVec S16 32) (k0_hw9 : k0_chk9 v323), ∀ a x, ((![v323] : Fin 1 → IVec S16 32) a x).toNat < S1024.size a := fun v323 k0_hw9 => k0_hw9.2.2.2
def k0_off25 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v334 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v335 : Index := Scalar.indexCast v84
  let c128_111 : Index := 128#32
  ![v334.toNat, v335.toNat, 128]
def k0_off26 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v337 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v338 : Index := Scalar.indexCast v84
  let c144 : Index := 144#32
  ![v337.toNat, v338.toNat, 144]

def k0_chk10 (v351 : IVec S16 32) : Prop :=
  (∀ a x, ((![v351] : Fin 1 → IVec S16 32) a x).toNat < S1024.size a) ∧
  (∀ a x, ((![v351] : Fin 1 → IVec S16 32) a x).toNat < S1024.size a) ∧
  (∀ a x, ((![v351] : Fin 1 → IVec S16 32) a x).toNat < S1024.size a) ∧
  (∀ a x, ((![v351] : Fin 1 → IVec S16 32) a x).toNat < S1024.size a)
theorem k0_idx37_inb : ∀ (v351 : IVec S16 32) (k0_hw10 : k0_chk10 v351), ∀ a x, ((![v351] : Fin 1 → IVec S16 32) a x).toNat < S1024.size a := fun v351 k0_hw10 => k0_hw10.1
theorem k0_idx38_inb : ∀ (v351 : IVec S16 32) (k0_hw10 : k0_chk10 v351), ∀ a x, ((![v351] : Fin 1 → IVec S16 32) a x).toNat < S1024.size a := fun v351 k0_hw10 => k0_hw10.2.1
theorem k0_idx39_inb : ∀ (v351 : IVec S16 32) (k0_hw10 : k0_chk10 v351), ∀ a x, ((![v351] : Fin 1 → IVec S16 32) a x).toNat < S1024.size a := fun v351 k0_hw10 => k0_hw10.2.2.1
theorem k0_idx40_inb : ∀ (v351 : IVec S16 32) (k0_hw10 : k0_chk10 v351), ∀ a x, ((![v351] : Fin 1 → IVec S16 32) a x).toNat < S1024.size a := fun v351 k0_hw10 => k0_hw10.2.2.2
def k0_off27 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v362 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v363 : Index := Scalar.indexCast v84
  let c144_115 : Index := 144#32
  ![v362.toNat, v363.toNat, 144]
def k0_off28 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v365 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v366 : Index := Scalar.indexCast v84
  let c160 : Index := 160#32
  ![v365.toNat, v366.toNat, 160]

def k0_chk11 (v379 : IVec S16 32) : Prop :=
  (∀ a x, ((![v379] : Fin 1 → IVec S16 32) a x).toNat < S1024.size a) ∧
  (∀ a x, ((![v379] : Fin 1 → IVec S16 32) a x).toNat < S1024.size a) ∧
  (∀ a x, ((![v379] : Fin 1 → IVec S16 32) a x).toNat < S1024.size a) ∧
  (∀ a x, ((![v379] : Fin 1 → IVec S16 32) a x).toNat < S1024.size a)
theorem k0_idx41_inb : ∀ (v379 : IVec S16 32) (k0_hw11 : k0_chk11 v379), ∀ a x, ((![v379] : Fin 1 → IVec S16 32) a x).toNat < S1024.size a := fun v379 k0_hw11 => k0_hw11.1
theorem k0_idx42_inb : ∀ (v379 : IVec S16 32) (k0_hw11 : k0_chk11 v379), ∀ a x, ((![v379] : Fin 1 → IVec S16 32) a x).toNat < S1024.size a := fun v379 k0_hw11 => k0_hw11.2.1
theorem k0_idx43_inb : ∀ (v379 : IVec S16 32) (k0_hw11 : k0_chk11 v379), ∀ a x, ((![v379] : Fin 1 → IVec S16 32) a x).toNat < S1024.size a := fun v379 k0_hw11 => k0_hw11.2.2.1
theorem k0_idx44_inb : ∀ (v379 : IVec S16 32) (k0_hw11 : k0_chk11 v379), ∀ a x, ((![v379] : Fin 1 → IVec S16 32) a x).toNat < S1024.size a := fun v379 k0_hw11 => k0_hw11.2.2.2
def k0_off29 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v390 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v391 : Index := Scalar.indexCast v84
  let c160_119 : Index := 160#32
  ![v390.toNat, v391.toNat, 160]
def k0_off30 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v393 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v394 : Index := Scalar.indexCast v84
  let c176 : Index := 176#32
  ![v393.toNat, v394.toNat, 176]

def k0_chk12 (v407 : IVec S16 32) : Prop :=
  (∀ a x, ((![v407] : Fin 1 → IVec S16 32) a x).toNat < S1024.size a) ∧
  (∀ a x, ((![v407] : Fin 1 → IVec S16 32) a x).toNat < S1024.size a) ∧
  (∀ a x, ((![v407] : Fin 1 → IVec S16 32) a x).toNat < S1024.size a) ∧
  (∀ a x, ((![v407] : Fin 1 → IVec S16 32) a x).toNat < S1024.size a)
theorem k0_idx45_inb : ∀ (v407 : IVec S16 32) (k0_hw12 : k0_chk12 v407), ∀ a x, ((![v407] : Fin 1 → IVec S16 32) a x).toNat < S1024.size a := fun v407 k0_hw12 => k0_hw12.1
theorem k0_idx46_inb : ∀ (v407 : IVec S16 32) (k0_hw12 : k0_chk12 v407), ∀ a x, ((![v407] : Fin 1 → IVec S16 32) a x).toNat < S1024.size a := fun v407 k0_hw12 => k0_hw12.2.1
theorem k0_idx47_inb : ∀ (v407 : IVec S16 32) (k0_hw12 : k0_chk12 v407), ∀ a x, ((![v407] : Fin 1 → IVec S16 32) a x).toNat < S1024.size a := fun v407 k0_hw12 => k0_hw12.2.2.1
theorem k0_idx48_inb : ∀ (v407 : IVec S16 32) (k0_hw12 : k0_chk12 v407), ∀ a x, ((![v407] : Fin 1 → IVec S16 32) a x).toNat < S1024.size a := fun v407 k0_hw12 => k0_hw12.2.2.2
def k0_off31 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v418 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v419 : Index := Scalar.indexCast v84
  let c176_123 : Index := 176#32
  ![v418.toNat, v419.toNat, 176]
def k0_off32 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v421 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v422 : Index := Scalar.indexCast v84
  let c184 : Index := 184#32
  ![v421.toNat, v422.toNat, 184]

def k0_chk13 (v435 : IVec S16 32) : Prop :=
  (∀ a x, ((![v435] : Fin 1 → IVec S16 32) a x).toNat < S1024.size a) ∧
  (∀ a x, ((![v435] : Fin 1 → IVec S16 32) a x).toNat < S1024.size a) ∧
  (∀ a x, ((![v435] : Fin 1 → IVec S16 32) a x).toNat < S1024.size a) ∧
  (∀ a x, ((![v435] : Fin 1 → IVec S16 32) a x).toNat < S1024.size a)
theorem k0_idx49_inb : ∀ (v435 : IVec S16 32) (k0_hw13 : k0_chk13 v435), ∀ a x, ((![v435] : Fin 1 → IVec S16 32) a x).toNat < S1024.size a := fun v435 k0_hw13 => k0_hw13.1
theorem k0_idx50_inb : ∀ (v435 : IVec S16 32) (k0_hw13 : k0_chk13 v435), ∀ a x, ((![v435] : Fin 1 → IVec S16 32) a x).toNat < S1024.size a := fun v435 k0_hw13 => k0_hw13.2.1
theorem k0_idx51_inb : ∀ (v435 : IVec S16 32) (k0_hw13 : k0_chk13 v435), ∀ a x, ((![v435] : Fin 1 → IVec S16 32) a x).toNat < S1024.size a := fun v435 k0_hw13 => k0_hw13.2.2.1
theorem k0_idx52_inb : ∀ (v435 : IVec S16 32) (k0_hw13 : k0_chk13 v435), ∀ a x, ((![v435] : Fin 1 → IVec S16 32) a x).toNat < S1024.size a := fun v435 k0_hw13 => k0_hw13.2.2.2
def k0_off33 (k0_t1 : Fin k0_t1_loop.trips) (k0_t2 : Fin k0_t2_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let v446 : Index := Scalar.indexCast v56
  let c0_i32_77 : BitVec 32 := 0#32
  let c0_i32_62 : BitVec 32 := 0#32
  let c1_i32_64 : BitVec 32 := 1#32
  let arg14 : BitVec 32 := Scf.iv c0_i32_62 c1_i32_64 k0_t2
  let c1_i32_76 : BitVec 32 := 1#32
  let v83 : BitVec 32 := Scalar.muli arg14 c1_i32_76
  let v84 : BitVec 32 := Scalar.addi c0_i32_77 v83
  let v447 : Index := Scalar.indexCast v84
  let c184_127 : Index := 184#32
  ![v446.toNat, v447.toNat, 184]
def k0_off34 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_26 : BitVec 32 := 0#32
  let c1_i32_27 : BitVec 32 := 1#32
  let arg13 : BitVec 32 := Scf.iv c0_i32_26 c1_i32_27 k0_t1
  let c64_i32_66 : BitVec 32 := 64#32
  let v69 : BitVec 32 := Scalar.muli arg13 c64_i32_66
  let v70 : BitVec 32 := Scalar.addi v2 v69
  let c0_i32_69 : BitVec 32 := 0#32
  ![v70.toNat, 0]
def k0_cond2 (k0_t1 : Fin k0_t1_loop.trips) : BitVec 1 :=
  let c0_i32_26 : BitVec 32 := 0#32
  let c1_i32_27 : BitVec 32 := 1#32
  let arg13 : BitVec 32 := Scf.iv c0_i32_26 c1_i32_27 k0_t1
  let c3_i32_73 : BitVec 32 := 3#32
  let v79 : BitVec 32 := Scalar.addi arg13 c3_i32_73
  let c8_i32_74 : BitVec 32 := 8#32
  let v80 : BitVec 1 := Scalar.cmpi .slt v79 c8_i32_74
  let v81 : BitVec 32 := Scalar.extui v80
  let c0_i32_75 : BitVec 32 := 0#32
  let v82 : BitVec 1 := Scalar.cmpi .ne v81 c0_i32_75
  v82

def k0_off35 (k0_t1 : Fin k0_t1_loop.trips) : Fin 3 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  let c0_i32_78 : BitVec 32 := 0#32
  let c0_i32_79 : BitVec 32 := 0#32
  ![v56.toNat, 0, 0]
def k0_off36 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_26 : BitVec 32 := 0#32
  let c1_i32_27 : BitVec 32 := 1#32
  let arg13 : BitVec 32 := Scf.iv c0_i32_26 c1_i32_27 k0_t1
  let c3_i32_76 : BitVec 32 := 3#32
  let v83 : BitVec 32 := Scalar.addi arg13 c3_i32_76
  let c64_i32_77 : BitVec 32 := 64#32
  let v84 : BitVec 32 := Scalar.muli v83 c64_i32_77
  let v85 : BitVec 32 := Scalar.addi v2 v84
  let c0_i32_80 : BitVec 32 := 0#32
  ![v85.toNat, 0]
def k0_off37 (k0_t1 : Fin k0_t1_loop.trips) : Fin 1 → Nat :=
  let c0_i32_26 : BitVec 32 := 0#32
  let c1_i32_27 : BitVec 32 := 1#32
  let arg13 : BitVec 32 := Scf.iv c0_i32_26 c1_i32_27 k0_t1
  let c3_i32_53 : BitVec 32 := 3#32
  let v56 : BitVec 32 := Scalar.remsi arg13 c3_i32_53
  ![v56.toNat]
def k0_off38 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_33 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S64 : Shape := ⟨1, ![64]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩

abbrev nBuf : Space → Nat
  | .hbm => 201
  | .vmem => 0
  | .smem => 0
  | _ => 0

abbrev hbmTy0_0 (i : Nat) : BufTy := match i % 128 with
  | 0 => ⟨S16384x200, .f32⟩
  | 1 => ⟨S64, .f32⟩
  | 2 => ⟨S_, .f32⟩
  | 3 => ⟨S_, .f32⟩
  | 4 => ⟨S16384x200, .f32⟩
  | 5 => ⟨S16384x200, .f32⟩
  | 6 => ⟨S16384x200, .f32⟩
  | 7 => ⟨S16384x200, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S16384x200, .f32⟩
  | 15 => ⟨S16384x200, .f32⟩
  | 16 => ⟨S16384x200, .f32⟩
  | 17 => ⟨S16384x200, .f32⟩
  | 18 => ⟨S_, .f32⟩
  | 19 => ⟨S16384x200, .f32⟩
  | 20 => ⟨S16384x200, .f32⟩
  | 21 => ⟨S16384x200, .f32⟩
  | 22 => ⟨S16384x200, .i32⟩
  | 23 => ⟨S_, .i32⟩
  | 24 => ⟨S_, .i32⟩
  | 25 => ⟨S_, .i32⟩
  | 26 => ⟨S16384x200, .i32⟩
  | 27 => ⟨S16384x200, .i32⟩
  | 28 => ⟨S_, .i32⟩
  | 29 => ⟨S16384x200, .i32⟩
  | 30 => ⟨S16384x200, .i32⟩
  | 31 => ⟨S16384x200, .f32⟩
  | 32 => ⟨S16384x200, .f32⟩
  | 33 => ⟨S_, .i32⟩
  | 34 => ⟨S16384x200, .i32⟩
  | 35 => ⟨S16384x200, .i32⟩
  | 36 => ⟨S_, .i32⟩
  | 37 => ⟨S_, .i32⟩
  | 38 => ⟨S_, .i32⟩
  | 39 => ⟨S16384x200, .i32⟩
  | 40 => ⟨S16384x200, .i32⟩
  | 41 => ⟨S_, .i32⟩
  | 42 => ⟨S16384x200, .i32⟩
  | 43 => ⟨S16384x200, .i32⟩
  | 44 => ⟨S_, .i32⟩
  | 45 => ⟨S16384x200, .i32⟩
  | 46 => ⟨S16384x200, .i32⟩
  | 47 => ⟨S_, .i32⟩
  | 48 => ⟨S_, .i32⟩
  | 49 => ⟨S_, .i32⟩
  | 50 => ⟨S16384x200, .i32⟩
  | 51 => ⟨S16384x200, .i32⟩
  | 52 => ⟨S_, .i32⟩
  | 53 => ⟨S16384x200, .i32⟩
  | 54 => ⟨S16384x200, .i32⟩
  | 55 => ⟨S_, .i32⟩
  | 56 => ⟨S16384x200, .i32⟩
  | 57 => ⟨S16384x200, .i32⟩
  | 58 => ⟨S_, .i32⟩
  | 59 => ⟨S_, .i32⟩
  | 60 => ⟨S_, .i32⟩
  | 61 => ⟨S16384x200, .i32⟩
  | 62 => ⟨S16384x200, .i32⟩
  | 63 => ⟨S_, .i32⟩
  | 64 => ⟨S16384x200, .i32⟩
  | 65 => ⟨S16384x200, .i32⟩
  | 66 => ⟨S_, .i32⟩
  | 67 => ⟨S16384x200, .i32⟩
  | 68 => ⟨S16384x200, .i1⟩
  | 69 => ⟨S_, .i32⟩
  | 70 => ⟨S16384x200, .i32⟩
  | 71 => ⟨S16384x200, .i32⟩
  | 72 => ⟨S16384x200, .i32⟩
  | 73 => ⟨S16384x200x1, .i32⟩
  | 74 => ⟨S1, .i32⟩
  | 75 => ⟨S_, .i32⟩
  | 76 => ⟨S16384x200x1, .i32⟩
  | 77 => ⟨S16384x200x1, .i1⟩
  | 78 => ⟨S1x1x1, .i32⟩
  | 79 => ⟨S16384x200x1, .i32⟩
  | 80 => ⟨S16384x200x1, .i1⟩
  | 81 => ⟨S16384x200x1, .i1⟩
  | 82 => ⟨S_, .i1⟩
  | 83 => ⟨S16384x200, .i1⟩
  | 84 => ⟨S16384x200, .f32⟩
  | 85 => ⟨S_, .f32⟩
  | 86 => ⟨S16384x200, .f32⟩
  | 87 => ⟨S16384x200, .f32⟩
  | 88 => ⟨S_, .i32⟩
  | 89 => ⟨S16384x200, .i32⟩
  | 90 => ⟨S16384x200, .i1⟩
  | 91 => ⟨S_, .i32⟩
  | 92 => ⟨S16384x200, .i32⟩
  | 93 => ⟨S16384x200, .i32⟩
  | 94 => ⟨S16384x200, .i32⟩
  | 95 => ⟨S16384x200x1, .i32⟩
  | 96 => ⟨S1, .i32⟩
  | 97 => ⟨S_, .i32⟩
  | 98 => ⟨S16384x200x1, .i32⟩
  | 99 => ⟨S16384x200x1, .i1⟩
  | 100 => ⟨S1x1x1, .i32⟩
  | 101 => ⟨S16384x200x1, .i32⟩
  | 102 => ⟨S16384x200x1, .i1⟩
  | 103 => ⟨S16384x200x1, .i1⟩
  | 104 => ⟨S_, .i1⟩
  | 105 => ⟨S16384x200, .i1⟩
  | 106 => ⟨S16384x200, .f32⟩
  | 107 => ⟨S_, .f32⟩
  | 108 => ⟨S16384x200, .f32⟩
  | 109 => ⟨S16384x200, .f32⟩
  | 110 => ⟨S_, .i32⟩
  | 111 => ⟨S16384x200, .i32⟩
  | 112 => ⟨S16384x200, .i1⟩
  | 113 => ⟨S_, .i32⟩
  | 114 => ⟨S16384x200, .i32⟩
  | 115 => ⟨S16384x200, .i32⟩
  | 116 => ⟨S16384x200, .i32⟩
  | 117 => ⟨S16384x200x1, .i32⟩
  | 118 => ⟨S1, .i32⟩
  | 119 => ⟨S_, .i32⟩
  | 120 => ⟨S16384x200x1, .i32⟩
  | 121 => ⟨S16384x200x1, .i1⟩
  | 122 => ⟨S1x1x1, .i32⟩
  | 123 => ⟨S16384x200x1, .i32⟩
  | 124 => ⟨S16384x200x1, .i1⟩
  | 125 => ⟨S16384x200x1, .i1⟩
  | 126 => ⟨S_, .i1⟩
  | 127 => ⟨S16384x200, .i1⟩
  | _ => ⟨S16384x200, .f32⟩

abbrev hbmTy0_1 (i : Nat) : BufTy := match i % 128 with
  | 0 => ⟨S16384x200, .f32⟩
  | 1 => ⟨S_, .f32⟩
  | 2 => ⟨S16384x200, .f32⟩
  | 3 => ⟨S16384x200, .f32⟩
  | 4 => ⟨S_, .i32⟩
  | 5 => ⟨S16384x200, .i32⟩
  | 6 => ⟨S16384x200, .i1⟩
  | 7 => ⟨S_, .i32⟩
  | 8 => ⟨S16384x200, .i32⟩
  | 9 => ⟨S16384x200, .i32⟩
  | 10 => ⟨S16384x200, .i32⟩
  | 11 => ⟨S16384x200x1, .i32⟩
  | 12 => ⟨S1, .i32⟩
  | 13 => ⟨S_, .i32⟩
  | 14 => ⟨S16384x200x1, .i32⟩
  | 15 => ⟨S16384x200x1, .i1⟩
  | 16 => ⟨S1x1x1, .i32⟩
  | 17 => ⟨S16384x200x1, .i32⟩
  | 18 => ⟨S16384x200x1, .i1⟩
  | 19 => ⟨S16384x200x1, .i1⟩
  | 20 => ⟨S_, .i1⟩
  | 21 => ⟨S16384x200, .i1⟩
  | 22 => ⟨S16384x200, .f32⟩
  | 23 => ⟨S_, .f32⟩
  | 24 => ⟨S16384x200, .f32⟩
  | 25 => ⟨S16384x200, .f32⟩
  | 26 => ⟨S16384x200, .f32⟩
  | 27 => ⟨S16384x200, .f32⟩
  | 28 => ⟨S_, .f32⟩
  | 29 => ⟨S16384x200, .f32⟩
  | 30 => ⟨S16384x200, .f32⟩
  | 31 => ⟨S_, .f32⟩
  | 32 => ⟨S16384x200, .f32⟩
  | 33 => ⟨S16384x200, .f32⟩
  | 34 => ⟨S16384x200, .f32⟩
  | 35 => ⟨S16384x200, .f32⟩
  | 36 => ⟨S_, .f32⟩
  | 37 => ⟨S16384x200, .f32⟩
  | 38 => ⟨S16384x200, .f32⟩
  | 39 => ⟨S_, .f32⟩
  | 40 => ⟨S16384x200, .f32⟩
  | 41 => ⟨S16384x200, .f32⟩
  | 42 => ⟨S_, .f32⟩
  | 43 => ⟨S16384x200, .f32⟩
  | 44 => ⟨S16384x200, .f32⟩
  | 45 => ⟨S16384x200, .f32⟩
  | 46 => ⟨S_, .f32⟩
  | 47 => ⟨S16384x200, .f32⟩
  | 48 => ⟨S16384x200, .f32⟩
  | 49 => ⟨S16384x200, .f32⟩
  | 50 => ⟨S16384x200, .f32⟩
  | 51 => ⟨S_, .f32⟩
  | 52 => ⟨S16384x200, .f32⟩
  | 53 => ⟨S16384x200, .f32⟩
  | 54 => ⟨S16384x200, .f32⟩
  | 55 => ⟨S_, .f32⟩
  | 56 => ⟨S16384x200, .f32⟩
  | 57 => ⟨S16384x200, .f32⟩
  | 58 => ⟨S16384x200, .f32⟩
  | 59 => ⟨S_, .f32⟩
  | 60 => ⟨S16384x200, .f32⟩
  | 61 => ⟨S16384x200, .f32⟩
  | 62 => ⟨S16384x200, .f32⟩
  | 63 => ⟨S16384x200, .f32⟩
  | 64 => ⟨S_, .f32⟩
  | 65 => ⟨S16384x200, .f32⟩
  | 66 => ⟨S16384x200, .f32⟩
  | 67 => ⟨S16384x200, .f32⟩
  | 68 => ⟨S16384x200, .f32⟩
  | 69 => ⟨S16384x200, .f32⟩
  | 70 => ⟨S16384x200, .f32⟩
  | 71 => ⟨S16384x200, .f32⟩
  | 72 => ⟨S16384x200, .f32⟩
  | _ => ⟨S16384x200, .f32⟩

abbrev hbmTy (i : Nat) : BufTy := match i / 128 with
  | 0 => hbmTy0_0 i
  | 1 => hbmTy0_1 i
  | _ => ⟨S16384x200, .f32⟩

abbrev bufTy : (tb : Table) → Fin (tcTables nBuf tb) → BufTy
  | .hbm, ⟨i, _⟩ => hbmTy i
  | _, _ => ⟨S16384x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst_1 : Ref sig .tc := ⟨.hbm, 8, rfl⟩
abbrev main_cst_2 : Ref sig .tc := ⟨.hbm, 9, rfl⟩
abbrev main_v1 : Ref sig .tc := ⟨.hbm, 10, rfl⟩
abbrev main_cst_3 : Ref sig .tc := ⟨.hbm, 11, rfl⟩
abbrev main_v2 : Ref sig .tc := ⟨.hbm, 12, rfl⟩
abbrev main_cst_4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_c_6 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_7 : Ref sig .tc := ⟨.hbm, 33, rfl⟩
abbrev main_v14 : Ref sig .tc := ⟨.hbm, 34, rfl⟩
abbrev main_v15 : Ref sig .tc := ⟨.hbm, 35, rfl⟩
abbrev main_c_8 : Ref sig .tc := ⟨.hbm, 36, rfl⟩
abbrev main_c_9 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v16 : Ref sig .tc := ⟨.hbm, 43, rfl⟩
abbrev main_c_10 : Ref sig .tc := ⟨.hbm, 44, rfl⟩
abbrev main_v17 : Ref sig .tc := ⟨.hbm, 45, rfl⟩
abbrev main_v18 : Ref sig .tc := ⟨.hbm, 46, rfl⟩
abbrev main_c_11 : Ref sig .tc := ⟨.hbm, 47, rfl⟩
abbrev main_c_12 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v19 : Ref sig .tc := ⟨.hbm, 54, rfl⟩
abbrev main_c_13 : Ref sig .tc := ⟨.hbm, 55, rfl⟩
abbrev main_v20 : Ref sig .tc := ⟨.hbm, 56, rfl⟩
abbrev main_v21 : Ref sig .tc := ⟨.hbm, 57, rfl⟩
abbrev main_c_14 : Ref sig .tc := ⟨.hbm, 58, rfl⟩
abbrev main_c_15 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_v22 : Ref sig .tc := ⟨.hbm, 65, rfl⟩
abbrev main_call5_c : Ref sig .tc := ⟨.hbm, 66, rfl⟩
abbrev main_call5_v0 : Ref sig .tc := ⟨.hbm, 67, rfl⟩
abbrev main_call5_v1 : Ref sig .tc := ⟨.hbm, 68, rfl⟩
abbrev main_call5_c_0 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_call5_v5 : Ref sig .tc := ⟨.hbm, 73, rfl⟩
abbrev main_call5_c_1 : Ref sig .tc := ⟨.hbm, 74, rfl⟩
abbrev main_call5_c_2 : Ref sig .tc := ⟨.hbm, 75, rfl⟩
abbrev main_call5_v6 : Ref sig .tc := ⟨.hbm, 76, rfl⟩
abbrev main_call5_v7 : Ref sig .tc := ⟨.hbm, 77, rfl⟩
abbrev main_call5_v8 : Ref sig .tc := ⟨.hbm, 78, rfl⟩
abbrev main_call5_v9 : Ref sig .tc := ⟨.hbm, 79, rfl⟩
abbrev main_call5_v10 : Ref sig .tc := ⟨.hbm, 80, rfl⟩
abbrev main_call5_v11 : Ref sig .tc := ⟨.hbm, 81, rfl⟩
abbrev main_call5_c_3 : Ref sig .tc := ⟨.hbm, 82, rfl⟩
abbrev main_call5_v12 : Ref sig .tc := ⟨.hbm, 83, rfl⟩
abbrev main_call5_v13 : Ref sig .tc := ⟨.hbm, 84, rfl⟩
abbrev main_call5_cst : Ref sig .tc := ⟨.hbm, 85, rfl⟩
abbrev main_call5_v14 : Ref sig .tc := ⟨.hbm, 86, rfl⟩
abbrev main_v23 : Ref sig .tc := ⟨.hbm, 87, rfl⟩
abbrev main_call6_c : Ref sig .tc := ⟨.hbm, 88, rfl⟩
abbrev main_call6_v0 : Ref sig .tc := ⟨.hbm, 89, rfl⟩
abbrev main_call6_v1 : Ref sig .tc := ⟨.hbm, 90, rfl⟩
abbrev main_call6_c_0 : Ref sig .tc := ⟨.hbm, 91, rfl⟩
abbrev main_call6_v2 : Ref sig .tc := ⟨.hbm, 92, rfl⟩
abbrev main_call6_v3 : Ref sig .tc := ⟨.hbm, 93, rfl⟩
abbrev main_call6_v4 : Ref sig .tc := ⟨.hbm, 94, rfl⟩
abbrev main_call6_v5 : Ref sig .tc := ⟨.hbm, 95, rfl⟩
abbrev main_call6_c_1 : Ref sig .tc := ⟨.hbm, 96, rfl⟩
abbrev main_call6_c_2 : Ref sig .tc := ⟨.hbm, 97, rfl⟩
abbrev main_call6_v6 : Ref sig .tc := ⟨.hbm, 98, rfl⟩
abbrev main_call6_v7 : Ref sig .tc := ⟨.hbm, 99, rfl⟩
abbrev main_call6_v8 : Ref sig .tc := ⟨.hbm, 100, rfl⟩
abbrev main_call6_v9 : Ref sig .tc := ⟨.hbm, 101, rfl⟩
abbrev main_call6_v10 : Ref sig .tc := ⟨.hbm, 102, rfl⟩
abbrev main_call6_v11 : Ref sig .tc := ⟨.hbm, 103, rfl⟩
abbrev main_call6_c_3 : Ref sig .tc := ⟨.hbm, 104, rfl⟩
abbrev main_call6_v12 : Ref sig .tc := ⟨.hbm, 105, rfl⟩
abbrev main_call6_v13 : Ref sig .tc := ⟨.hbm, 106, rfl⟩
abbrev main_call6_cst : Ref sig .tc := ⟨.hbm, 107, rfl⟩
abbrev main_call6_v14 : Ref sig .tc := ⟨.hbm, 108, rfl⟩
abbrev main_v24 : Ref sig .tc := ⟨.hbm, 109, rfl⟩
abbrev main_call7_c : Ref sig .tc := ⟨.hbm, 110, rfl⟩
abbrev main_call7_v0 : Ref sig .tc := ⟨.hbm, 111, rfl⟩
abbrev main_call7_v1 : Ref sig .tc := ⟨.hbm, 112, rfl⟩
abbrev main_call7_c_0 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_call7_v5 : Ref sig .tc := ⟨.hbm, 117, rfl⟩
abbrev main_call7_c_1 : Ref sig .tc := ⟨.hbm, 118, rfl⟩
abbrev main_call7_c_2 : Ref sig .tc := ⟨.hbm, 119, rfl⟩
abbrev main_call7_v6 : Ref sig .tc := ⟨.hbm, 120, rfl⟩
abbrev main_call7_v7 : Ref sig .tc := ⟨.hbm, 121, rfl⟩
abbrev main_call7_v8 : Ref sig .tc := ⟨.hbm, 122, rfl⟩
abbrev main_call7_v9 : Ref sig .tc := ⟨.hbm, 123, rfl⟩
abbrev main_call7_v10 : Ref sig .tc := ⟨.hbm, 124, rfl⟩
abbrev main_call7_v11 : Ref sig .tc := ⟨.hbm, 125, rfl⟩
abbrev main_call7_c_3 : Ref sig .tc := ⟨.hbm, 126, rfl⟩
abbrev main_call7_v12 : Ref sig .tc := ⟨.hbm, 127, rfl⟩
abbrev main_call7_v13 : Ref sig .tc := ⟨.hbm, 128, rfl⟩
abbrev main_call7_cst : Ref sig .tc := ⟨.hbm, 129, rfl⟩
abbrev main_call7_v14 : Ref sig .tc := ⟨.hbm, 130, rfl⟩
abbrev main_v25 : Ref sig .tc := ⟨.hbm, 131, rfl⟩
abbrev main_call8_c : Ref sig .tc := ⟨.hbm, 132, rfl⟩
abbrev main_call8_v0 : Ref sig .tc := ⟨.hbm, 133, rfl⟩
abbrev main_call8_v1 : Ref sig .tc := ⟨.hbm, 134, rfl⟩
abbrev main_call8_c_0 : Ref sig .tc := ⟨.hbm, 135, rfl⟩
abbrev main_call8_v2 : Ref sig .tc := ⟨.hbm, 136, rfl⟩
abbrev main_call8_v3 : Ref sig .tc := ⟨.hbm, 137, rfl⟩
abbrev main_call8_v4 : Ref sig .tc := ⟨.hbm, 138, rfl⟩
abbrev main_call8_v5 : Ref sig .tc := ⟨.hbm, 139, rfl⟩
abbrev main_call8_c_1 : Ref sig .tc := ⟨.hbm, 140, rfl⟩
abbrev main_call8_c_2 : Ref sig .tc := ⟨.hbm, 141, rfl⟩
abbrev main_call8_v6 : Ref sig .tc := ⟨.hbm, 142, rfl⟩
abbrev main_call8_v7 : Ref sig .tc := ⟨.hbm, 143, rfl⟩
abbrev main_call8_v8 : Ref sig .tc := ⟨.hbm, 144, rfl⟩
abbrev main_call8_v9 : Ref sig .tc := ⟨.hbm, 145, rfl⟩
abbrev main_call8_v10 : Ref sig .tc := ⟨.hbm, 146, rfl⟩
abbrev main_call8_v11 : Ref sig .tc := ⟨.hbm, 147, rfl⟩
abbrev main_call8_c_3 : Ref sig .tc := ⟨.hbm, 148, rfl⟩
abbrev main_call8_v12 : Ref sig .tc := ⟨.hbm, 149, rfl⟩
abbrev main_call8_v13 : Ref sig .tc := ⟨.hbm, 150, rfl⟩
abbrev main_call8_cst : Ref sig .tc := ⟨.hbm, 151, rfl⟩
abbrev main_call8_v14 : Ref sig .tc := ⟨.hbm, 152, rfl⟩
abbrev main_v26 : Ref sig .tc := ⟨.hbm, 153, rfl⟩
abbrev main_v27 : Ref sig .tc := ⟨.hbm, 154, rfl⟩
abbrev main_v28 : Ref sig .tc := ⟨.hbm, 155, rfl⟩
abbrev main_cst_16 : Ref sig .tc := ⟨.hbm, 156, rfl⟩
abbrev main_v29 : Ref sig .tc := ⟨.hbm, 157, rfl⟩
abbrev main_v30 : Ref sig .tc := ⟨.hbm, 158, rfl⟩
abbrev main_cst_17 : Ref sig .tc := ⟨.hbm, 159, rfl⟩
abbrev main_v31 : Ref sig .tc := ⟨.hbm, 160, rfl⟩
abbrev main_v32 : Ref sig .tc := ⟨.hbm, 161, rfl⟩
abbrev main_v33 : Ref sig .tc := ⟨.hbm, 162, rfl⟩
abbrev main_v34 : Ref sig .tc := ⟨.hbm, 163, rfl⟩
abbrev main_cst_18 : Ref sig .tc := ⟨.hbm, 164, rfl⟩
abbrev main_v35 : Ref sig .tc := ⟨.hbm, 165, rfl⟩
abbrev main_v36 : Ref sig .tc := ⟨.hbm, 166, rfl⟩
abbrev main_cst_19 : Ref sig .tc := ⟨.hbm, 167, rfl⟩
abbrev main_v37 : Ref sig .tc := ⟨.hbm, 168, rfl⟩
abbrev main_v38 : Ref sig .tc := ⟨.hbm, 169, rfl⟩
abbrev main_cst_20 : Ref sig .tc := ⟨.hbm, 170, rfl⟩
abbrev main_v39 : Ref sig .tc := ⟨.hbm, 171, rfl⟩
abbrev main_v40 : Ref sig .tc := ⟨.hbm, 172, rfl⟩
abbrev main_v41 : Ref sig .tc := ⟨.hbm, 173, rfl⟩
abbrev main_cst_21 : Ref sig .tc := ⟨.hbm, 174, rfl⟩
abbrev main_v42 : Ref sig .tc := ⟨.hbm, 175, rfl⟩
abbrev main_v43 : Ref sig .tc := ⟨.hbm, 176, rfl⟩
abbrev main_v44 : Ref sig .tc := ⟨.hbm, 177, rfl⟩
abbrev main_v45 : Ref sig .tc := ⟨.hbm, 178, rfl⟩
abbrev main_cst_22 : Ref sig .tc := ⟨.hbm, 179, rfl⟩
abbrev main_v46 : Ref sig .tc := ⟨.hbm, 180, rfl⟩
abbrev main_v47 : Ref sig .tc := ⟨.hbm, 181, rfl⟩
abbrev main_v48 : Ref sig .tc := ⟨.hbm, 182, rfl⟩
abbrev main_cst_23 : Ref sig .tc := ⟨.hbm, 183, rfl⟩
abbrev main_v49 : Ref sig .tc := ⟨.hbm, 184, rfl⟩
abbrev main_v50 : Ref sig .tc := ⟨.hbm, 185, rfl⟩
abbrev main_v51 : Ref sig .tc := ⟨.hbm, 186, rfl⟩
abbrev main_cst_24 : Ref sig .tc := ⟨.hbm, 187, rfl⟩
abbrev main_v52 : Ref sig .tc := ⟨.hbm, 188, rfl⟩
abbrev main_v53 : Ref sig .tc := ⟨.hbm, 189, rfl⟩
abbrev main_v54 : Ref sig .tc := ⟨.hbm, 190, rfl⟩
abbrev main_v55 : Ref sig .tc := ⟨.hbm, 191, rfl⟩
abbrev main_cst_25 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev main_v59 : Ref sig .tc := ⟨.hbm, 196, rfl⟩
abbrev main_v60 : Ref sig .tc := ⟨.hbm, 197, rfl⟩
abbrev main_v61 : Ref sig .tc := ⟨.hbm, 198, rfl⟩
abbrev main_v62 : Ref sig .tc := ⟨.hbm, 199, rfl⟩
abbrev main_v63 : Ref sig .tc := ⟨.hbm, 200, rfl⟩

abbrev nD : Nat := 1
abbrev τ : Topo := Topo.v7x

variable {F : FTy → Type} [FloatOps F]
-- ==== Proof.Setup.lean ====
/-
  The program as the launch theorem sees it, the resource algebra, the buffers a tile's task works on, and the row of
  a block as thirteen pieces of sixteen lanes.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the copies' counters -/

abbrev UH : Type := URounds (GSem nD τ sig) ℕ
abbrev UU : Type := UH × Counters

abbrev EH : Emb UH (MT nD τ sig (HIx 1) (Elt F) ℕ UU ℕ) := embL

/-! ## The buffers a task is handed -/

abbrev tV : Memref sig .scVector .hbm S4x1024 .f32 := Memref.whole main_v46_scv
abbrev xV : Memref sig .scVector .hbm S16384x200 .f32 := Memref.whole main_arg0_scv
abbrev oV : Memref sig .scVector .hbm S16384x200 .f32 := Memref.whole main_v47_scv
abbrev aV : Memref sig .scVector .vmem S1024 .f32 := Memref.whole cc0_scratch0
abbrev bV : Memref sig .scVector .vmem S1024 .f32 := Memref.whole cc0_scratch1
abbrev cV : Memref sig .scVector .vmem S1024 .f32 := Memref.whole cc0_scratch2
abbrev dV : Memref sig .scVector .vmem S1024 .f32 := Memref.whole cc0_scratch3
abbrev xbV : Memref sig .scVector .vmem S3x64x200 .f32 := Memref.whole cc0_scratch4
abbrev obV : Memref sig .scVector .vmem S3x64x200 .f32 := Memref.whole cc0_scratch5

/-! ## A row's pieces -/

variable [FloatOps F]

/-- The thread's type of the task at coordinates `L`. -/
abbrev thrOf (L : grid0.Coords) : Proc τ := .scVector ((L 0).castLE hcore0) ((L 1).castLE hsub0)

/-- One piece of a row: sixteen lanes loaded at `o`, their table positions computed and checked, the four tables
    gathered there, the polynomial stored at `p`. -/
def piece (L : grid0.Coords) (v30 : IVec S16 32) (cst : F .f32) (o p : Fin 3 → ℕ)
    (ho : ∀ a, o a + S1x1x16.size a ≤ S3x64x200.size a) (hp : ∀ a, p a + S1x1x16.size a ≤ S3x64x200.size a) :
    Prog (TpuEff nD τ sig (Elt F) Λ₀ (thrOf L)) Unit :=
  .op (.load xbV (Rect.unit (s := S3x64x200) o S1x1x16.size ho).toLoadRect (View.loadsAt_vmem h_S1x1x16)) fun ld =>
  .op (TpuEff.assume (k0_chk1 (k0_pay3 v30 cst ld)) (k0_chk1.dec (k0_pay3 v30 cst ld))) fun hw =>
  SparseCore.vectorLoadIdx aV ![k0_pay3 v30 cst ld] (k0_idx1_inb _ hw.down) (View.loads_vmem h_S1024) >>= fun va =>
  SparseCore.vectorLoadIdx bV ![k0_pay3 v30 cst ld] (k0_idx2_inb _ hw.down) (View.loads_vmem h_S1024) >>= fun vb =>
  SparseCore.vectorLoadIdx cV ![k0_pay3 v30 cst ld] (k0_idx3_inb _ hw.down) (View.loads_vmem h_S1024) >>= fun vc =>
  SparseCore.vectorLoadIdx dV ![k0_pay3 v30 cst ld] (k0_idx4_inb _ hw.down) (View.loads_vmem h_S1024) >>= fun vd =>
  .op (.load obV (Rect.unit (s := S3x64x200) p S1x1x16.size hp).toLoadRect (View.loadsAt_vmem h_S1x1x16)) fun _ =>
  .op (.store obV (Rect.unit (s := S3x64x200) p S1x1x16.size hp) (shapeCast S1x1x16 (k0_pay4 cst ld va vb vc vd) shapeCasts_S16_S1x1x16) Finset.univ
    (View.stores_vmem_bits_univ h_S1x1x16 rfl) (.inl rfl)) fun _ => .ret ()

set_option maxRecDepth 65536 in
set_option maxHeartbeats 4000000 in
/-- A row's body is its thirteen pieces in turn, the last over the sixteen lanes that end the row. -/
theorem row_eq (L : grid0.Coords) (r0 r1 r2 r3 : DmaSems sig S_) (v2 : BitVec 32) (v30 : IVec S16 32) (cst : F .f32) (k : Fin k0_t1_loop.trips) (v56 : BitVec 32)
    (t : Fin k0_t2_loop.trips) :
    k0_t2_body L tV (Memref.isWhole_whole _) xV (Memref.isWhole_whole _) oV (Memref.isWhole_whole _) aV (Memref.isWhole_whole _) bV (Memref.isWhole_whole _)
        cV (Memref.isWhole_whole _) dV (Memref.isWhole_whole _) xbV (Memref.isWhole_whole _) obV (Memref.isWhole_whole _) cc0_scratch6 cc0_scratch7
        r0 r1 r2 r3 v2 v30 cst k v56 t ()
      = (do
          piece L v30 cst (k0_off8 k t) (k0_off9 k t) (k0_off8_inb k t) (k0_off9_inb k t)
          piece L v30 cst (k0_off10 k t) (k0_off11 k t) (k0_off10_inb k t) (k0_off11_inb k t)
          piece L v30 cst (k0_off12 k t) (k0_off13 k t) (k0_off12_inb k t) (k0_off13_inb k t)
          piece L v30 cst (k0_off14 k t) (k0_off15 k t) (k0_off14_inb k t) (k0_off15_inb k t)
          piece L v30 cst (k0_off16 k t) (k0_off17 k t) (k0_off16_inb k t) (k0_off17_inb k t)
          piece L v30 cst (k0_off18 k t) (k0_off19 k t) (k0_off18_inb k t) (k0_off19_inb k t)
          piece L v30 cst (k0_off20 k t) (k0_off21 k t) (k0_off20_inb k t) (k0_off21_inb k t)
          piece L v30 cst (k0_off22 k t) (k0_off23 k t) (k0_off22_inb k t) (k0_off23_inb k t)
          piece L v30 cst (k0_off24 k t) (k0_off25 k t) (k0_off24_inb k t) (k0_off25_inb k t)
          piece L v30 cst (k0_off26 k t) (k0_off27 k t) (k0_off26_inb k t) (k0_off27_inb k t)
          piece L v30 cst (k0_off28 k t) (k0_off29 k t) (k0_off28_inb k t) (k0_off29_inb k t)
          piece L v30 cst (k0_off30 k t) (k0_off31 k t) (k0_off30_inb k t) (k0_off31_inb k t)
          piece L v30 cst (k0_off32 k t) (k0_off33 k t) (k0_off32_inb k t) (k0_off33_inb k t)
          pure ⟨⟩) := rfl

end Cert.Proof.Spline

end
-- ==== Proof.Piece.lean ====
/-
  What one piece of a row does: sixteen lanes of the block in, the polynomial of the knot interval each lies in out. The
  value at a lane is a function of the entry read and of the lane's number, over any float values; the piece leaves the
  rest of the block as it was.
-/
module

public import proofs.«01_k».proof.Proof.Setup
public import Idealize.ShloMosaic.Lib.Pointwise

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The value at a lane -/

/-- The constant 63 the entries are scaled by. -/
abbrev c63 : F .f32 := Scalar.ofBits .f32 0x427C0000#32

/-- The lane numbers 0 to 15. -/
abbrev lanes : IVec S16 32 := iota .scVector S16 32 [0] iota_S16_d0_w32_scVector

/-- The knot interval of an entry, as the word the kernel computes: the scaled entry truncated and clamped to 0 … 62. -/
def knot (x : F .f32) : BitVec 32 :=
  IntOp.minsi (IntOp.maxsi (FloatOps.fptosi 32 (FloatOps.mulf x c63)) 0#32) 62#32

/-- The position in the tables that lane `l` reads for an entry. -/
def pos (x : F .f32) (l : ℕ) : ℕ := (knot x * 16#32 + BitVec.ofNat 32 l).toNat

/-- The entry's offset in its knot interval. -/
def frac (x : F .f32) : F .f32 := FloatOps.subf (FloatOps.mulf x c63) (FloatOps.sitofp .f32 (knot x))

/-- The cubic with coefficients `a b c d` (constant first) at `t`, nested. -/
def cubic (t a b c d : F .f32) : F .f32 :=
  FloatOps.addf (FloatOps.mulf (FloatOps.addf (FloatOps.mulf (FloatOps.addf (FloatOps.mulf d t) c) t) b) t) a

/-- Entry `n` of a table of 1024. -/
def at1024 (n : ℕ) : S1024.Idx := ix1 ⟨n % 1024, Nat.mod_lt _ (by decide)⟩

/-- What the kernel computes at lane `l` for the entry `x`, from the four tables. -/
def cell (ta tb tc td : S1024.Idx → F .f32) (x : F .f32) (l : ℕ) : F .f32 :=
  cubic (frac x) (ta (at1024 (pos x l))) (tb (at1024 (pos x l))) (tc (at1024 (pos x l))) (td (at1024 (pos x l)))

theorem maxsi_zero_nonneg (w : BitVec 32) : 0 ≤ (IntOp.maxsi w 0#32).toInt := by
  unfold IntOp.maxsi
  split
  · rename_i h
    rw [BitVec.slt_iff_toInt_lt] at h
    exact le_of_lt h
  · decide

theorem minsi_le {v : BitVec 32} (hv : 0 ≤ v.toInt) : (IntOp.minsi v 62#32).toNat ≤ 62 := by
  unfold IntOp.minsi
  split
  · rename_i h
    rw [BitVec.slt_iff_toInt_lt, show (62#32 : BitVec 32).toInt = 62 by decide] at h
    rw [BitVec.toInt_eq_toNat_cond] at h hv
    split at hv <;> omega
  · decide

/-- The knot interval is at most 62. -/
theorem knot_le (x : F .f32) : (knot x).toNat ≤ 62 := minsi_le (maxsi_zero_nonneg _)

/-- The position read is the interval's sixteen entries' `l`-th. -/
theorem pos_eq (x : F .f32) {l : ℕ} (hl : l < 16) : pos x l = 16 * (knot x).toNat + l := by
  have h := knot_le x
  unfold pos
  rw [BitVec.toNat_add, BitVec.toNat_mul, BitVec.toNat_ofNat]
  show ((knot x).toNat * 16 % 2 ^ 32 + l % 2 ^ 32) % 2 ^ 32 = _
  omega

theorem pos_lt (x : F .f32) {l : ℕ} (hl : l < 16) : pos x l < 1024 := by
  rw [pos_eq x hl]; have := knot_le x; omega

/-- A piece's lane `j` of the sixteen it loaded. -/
theorem cast_in (ld : Vec F S1x1x16 .f32) (j : S16.Idx) : shapeCast S16 ld shapeCasts_S1x1x16_S16 j = ld (ix3 0 0 (j 0)) := by
  obtain ⟨j, rfl⟩ : ∃ a, j = ix1 a := ⟨_, eq_ix1 j⟩
  unfold shapeCast
  congr 1
  revert j; decide +kernel

theorem cast_out (w : FVec F S16 .f32) (j : S1x1x16.Idx) : shapeCast S1x1x16 w shapeCasts_S16_S1x1x16 j = w (ix1 (j 2)) := by
  obtain ⟨a, b, j, rfl⟩ : ∃ a b c, j = ix3 a b c := ⟨_, _, _, eq_ix3 j⟩
  unfold shapeCast
  congr 1
  revert a b j; decide +kernel

theorem lanes_apply (j : S16.Idx) : lanes j = BitVec.ofNat 32 (j 0).val := by
  show BitVec.ofNat 32 (0 * 16 + (j 0).val) = _
  rw [Nat.zero_mul, Nat.zero_add]

theorem pay3_apply (ld : Vec F S1x1x16 .f32) (j : S16.Idx) :
    (k0_pay3 lanes c63 ld j).toNat = pos (ld (ix3 0 0 (j 0))) (j 0).val := by
  show (IntOp.addi (IntOp.muli (IntOp.minsi (IntOp.maxsi (FloatOps.fptosi 32 (FloatOps.mulf (shapeCast S16 ld shapeCasts_S1x1x16_S16 j) c63)) 0#32) 62#32) 16#32) (lanes j)).toNat = _
  rw [cast_in, lanes_apply]; rfl

theorem pay4_apply (ld : Vec F S1x1x16 .f32) (va vb vc vd : Vec F S16 .f32) (j : S16.Idx) :
    k0_pay4 c63 ld va vb vc vd j = cubic (frac (ld (ix3 0 0 (j 0)))) (va j) (vb j) (vc j) (vd j) := by
  rw [← cast_in ld j]; rfl

/-- The check a piece makes holds: every lane's position lies in the tables. -/
theorem chk (ld : Vec F S1x1x16 .f32) : k0_chk1 (k0_pay3 lanes c63 ld) := by
  have h : ∀ a x, ((![k0_pay3 lanes c63 ld] : Fin 1 → IVec S16 32) a x).toNat < S1024.size a := by
    intro a x
    obtain rfl : a = 0 := Subsingleton.elim _ _
    show (k0_pay3 lanes c63 ld x).toNat < 1024
    rw [pay3_apply]; exact pos_lt _ (x 0).isLt
  exact ⟨h, h, h, h⟩

theorem gather_apply (t : S1024.Idx → F .f32) (ld : Vec F S1x1x16 .f32) (j : S16.Idx)
    (h : ∀ a x, ((![k0_pay3 lanes c63 ld] : Fin 1 → IVec S16 32) a x).toNat < S1024.size a) :
    loadIdx (F := F) (e := .f32) t ![k0_pay3 lanes c63 ld] h j = t (at1024 (pos (ld (ix3 0 0 (j 0))) (j 0).val)) := by
  unfold loadIdx
  congr 1
  refine (eq_ix1 (n := 1024) _).trans ?_
  unfold at1024
  congr 1
  refine Fin.ext ?_
  show (k0_pay3 lanes c63 ld j).toNat = _ % 1024
  rw [pay3_apply, Nat.mod_eq_of_lt (pos_lt _ (j 0).isLt)]

/-! ## The piece -/

/-- The SparseCore and the vector subcore at coordinates `L`. -/
abbrev coreC (L : grid0.Coords) : Fin τ.nSC := (L 0).castLE hcore0
abbrev coreS (L : grid0.Coords) : Fin τ.nSub := (L 1).castLE hsub0

/-- Slot `n` of the three a block buffer has. -/
def slotS (n : ℕ) : Finset S3x64x200.Idx := Finset.univ.filter fun i => (i 0).val = n

/-- A block buffer after the piece at row `r` and column `c`: the sixteen lanes' values, the rest as before. -/
def put (ta tb tc td : S1024.Idx → F .f32) (fx fo : S3x64x200.Idx → F .f32) (r c : ℕ) : S3x64x200.Idx → F .f32 :=
  fun i => if (i 1).val = r ∧ c ≤ (i 2).val ∧ (i 2).val < c + 16 then cell ta tb tc td (fx i) ((i 2).val - c) else fo i

theorem unit_set_subset {o : Fin 3 → ℕ} {n r c : ℕ} (ho : ∀ a, o a + S1x1x16.size a ≤ S3x64x200.size a) (eo : o = ![n, r, c]) :
    (Rect.unit (s := S3x64x200) o S1x1x16.size ho).set ⊆ slotS n := by
  subst eo
  intro i hi
  refine Finset.mem_filter.mpr ⟨Finset.mem_univ _, ?_⟩
  have h : n ≤ (i 0).val ∧ (i 0).val < n + 1 := Rect.mem_set_unit.mp hi 0
  omega

set_option maxHeartbeats 1000000 in
theorem write_put (ta tb tc td : S1024.Idx → F .f32) (fx fo : S3x64x200.Idx → F .f32) {o p : Fin 3 → ℕ} {n r c : ℕ}
    (ho : ∀ a, o a + S1x1x16.size a ≤ S3x64x200.size a) (hp : ∀ a, p a + S1x1x16.size a ≤ S3x64x200.size a)
    (eo : o = ![n, r, c]) (ep : p = ![n, r, c]) (w : Vec F S16 .f32)
    (hw : ∀ j : S16.Idx, w j = cell ta tb tc td (xbV.view.readAt (Elt F) (Rect.unit (s := S3x64x200) o S1x1x16.size ho).toLoadRect fx (ix3 0 0 (j 0))) (j 0).val)
    (i : S3x64x200.Idx) (hi : i ∈ slotS n) :
    (obV.access (Rect.unit (s := S3x64x200) p S1x1x16.size hp)).write (Elt F) fo (shapeCast S1x1x16 w shapeCasts_S16_S1x1x16) Finset.univ i
      = put ta tb tc td fx fo r c i := by
  subst eo ep
  have h0 : (i 0).val = n := (Finset.mem_filter.mp hi).2
  have hc : c + 16 ≤ 200 := hp 2
  unfold put
  by_cases h : (i 1).val = r ∧ c ≤ (i 2).val ∧ (i 2).val < c + 16
  · rw [if_pos h]
    have e : i = (obV.access (Rect.unit (s := S3x64x200) ![n, r, c] S1x1x16.size hp)).emb (ix3 (n0 := 1) (n1 := 1) (n2 := 16) 0 0 ⟨(i 2).val - c, by omega⟩) := by
      funext a
      match a with
      | 0 => exact Fin.ext (by show (i 0).val = n + 1 * 0; omega)
      | 1 => exact Fin.ext (by show (i 1).val = r + 1 * 0; omega)
      | 2 => exact Fin.ext (by show (i 2).val = c + 1 * ((i 2).val - c); omega)
    rw [e, View.write_emb_of_mem _ _ (Finset.mem_univ _)]
    refine (cast_eq _ _).trans ?_
    rw [cast_out, hw]
    refine congrArg₂ (cell ta tb tc td) ?_ ?_
    · show fx _ = fx _
      congr 1
    · show (i 2).val - c = c + 1 * ((i 2).val - c) - c
      omega
  · rw [if_neg h, View.write_of_not_mem]
    intro hm
    rw [show (obV.access (Rect.unit (s := S3x64x200) ![n, r, c] S1x1x16.size hp)).setOn Finset.univ = (Rect.unit (s := S3x64x200) ![n, r, c] S1x1x16.size hp).set
      from View.set_slice_whole _ _] at hm
    have h1 : r ≤ (i 1).val ∧ (i 1).val < r + 1 := Rect.mem_set_unit.mp hm 1
    have h2 : c ≤ (i 2).val ∧ (i 2).val < c + 16 := Rect.mem_set_unit.mp hm 2
    exact h ⟨by omega, h2⟩

variable (d : Dev nD) (L : grid0.Coords)

/-- A task's table scratches, at the tables' contents. -/
def tabs (ta tb tc td : S1024.Idx → F .f32) : sProp 𝕄 :=
  iprop(((V d (coreC L) (coreS L)).loc cc0_scratch0 ↦{fullShare} ta) ∗ ((V d (coreC L) (coreS L)).loc cc0_scratch1 ↦{fullShare} tb)
    ∗ ((V d (coreC L) (coreS L)).loc cc0_scratch2 ↦{fullShare} tc) ∗ ((V d (coreC L) (coreS L)).loc cc0_scratch3 ↦{fullShare} td))

/-- Slot `n` of the block buffer the entries come in, and of the one the results go out from. -/
def xslot (n : ℕ) (f : S3x64x200.Idx → F .f32) : sProp 𝕄 := (V d (coreC L) (coreS L)).loc cc0_scratch4 ↦[slotS n]{fullShare} f
def oslot (n : ℕ) (f : S3x64x200.Idx → F .f32) : sProp 𝕄 := (V d (coreC L) (coreS L)).loc cc0_scratch5 ↦[slotS n]{fullShare} f

set_option maxHeartbeats 1000000 in
/-- A piece at row `r` and column `c` of slot `n` puts its sixteen values. -/
theorem wp_piece (ta tb tc td : S1024.Idx → F .f32) (fx fo : S3x64x200.Idx → F .f32) {o p : Fin 3 → ℕ} {n r c : ℕ}
    (ho : ∀ a, o a + S1x1x16.size a ≤ S3x64x200.size a) (hp : ∀ a, p a + S1x1x16.size a ≤ S3x64x200.size a)
    (eo : o = ![n, r, c]) (ep : p = ![n, r, c]) :
    iprop(tabs d L ta tb tc td ∗ xslot d L n fx ∗ oslot d L n fo)
      ⊢ wp frame (wpE (defs₀ (F := F)) 𝒱₀ (V d (coreC L) (coreS L)) none) Set.univ (piece L lanes c63 o p ho hp)
          fun _ => iprop(tabs d L ta tb tc td ∗ xslot d L n fx ∗ oslot d L n (put ta tb tc td fx fo r c)) := by
  unfold piece tabs xslot oslot
  iintro ⟨⟨Ha, Hb, Hc, Hd⟩, Hx, Ho⟩
  iapply (wp_load 𝒱₀ (V d (coreC L) (coreS L)) none Set.univ (m := xbV) (S := slotS n) (Finset.map_refl.trans_subset (unit_set_subset ho eo))) $$ Hx
  iintro Hx
  rw [wp_assume_of _ _ _ _ (chk _)]
  iapply (SparseCore.wp_vectorLoadIdx 𝒱₀ (V d (coreC L) (coreS L)) none Set.univ (base := aV) (S := Finset.univ) (Finset.subset_univ _)) $$ Ha
  iintro Ha
  iapply (SparseCore.wp_vectorLoadIdx 𝒱₀ (V d (coreC L) (coreS L)) none Set.univ (base := bV) (S := Finset.univ) (Finset.subset_univ _)) $$ Hb
  iintro Hb
  iapply (SparseCore.wp_vectorLoadIdx 𝒱₀ (V d (coreC L) (coreS L)) none Set.univ (base := cV) (S := Finset.univ) (Finset.subset_univ _)) $$ Hc
  iintro Hc
  iapply (SparseCore.wp_vectorLoadIdx 𝒱₀ (V d (coreC L) (coreS L)) none Set.univ (base := dV) (S := Finset.univ) (Finset.subset_univ _)) $$ Hd
  iintro Hd
  iapply (wp_load 𝒱₀ (V d (coreC L) (coreS L)) none Set.univ (m := obV) (S := slotS n) (Finset.map_refl.trans_subset (unit_set_subset hp ep))) $$ Ho
  iintro Ho
  iapply (wp_store 𝒱₀ (V d (coreC L) (coreS L)) none Set.univ (m := obV) (r := Rect.unit (s := S3x64x200) p S1x1x16.size hp) (S := slotS n) ((View.set_slice_whole _ _).trans_subset (unit_set_subset hp ep))) $$ Ho
  iintro Ho
  sl_step
  isplitl [Ha Hb Hc Hd]
  · iframe Ha Hb Hc Hd
  isplitl [Hx]
  · iexact Hx
  iapply (Entails.of_eq (pointsTo_congr fun i hi => ?_)) $$ Ho
  refine write_put ta tb tc td fx fo ho hp eo ep _ (fun j => ?_) i hi
  rw [pay4_apply, show View.read (Elt F) (aV.access (Rect.whole S1024)) ta = ta from Memref.read_access_whole (Elt F) cc0_scratch0 ta,
    show View.read (Elt F) (bV.access (Rect.whole S1024)) tb = tb from Memref.read_access_whole (Elt F) cc0_scratch1 tb,
    show View.read (Elt F) (cV.access (Rect.whole S1024)) tc = tc from Memref.read_access_whole (Elt F) cc0_scratch2 tc,
    show View.read (Elt F) (dV.access (Rect.whole S1024)) td = td from Memref.read_access_whole (Elt F) cc0_scratch3 td,
    gather_apply ta, gather_apply tb, gather_apply tc, gather_apply td]
  rfl

end Cert.Proof.Spline

end
-- ==== Proof.Row.lean ====
/-
  What the rows of one block compute: every entry of a row becomes the value of the piece it lies in, a row after the
  other, and so the whole block is the entrywise image of the block read.
-/
module

public import proofs.«01_k».proof.Proof.Piece

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The value of a block -/

/-- The lane that column `q` of a row is computed at: columns 184 to 199 are the last piece's sixteen lanes. -/
def lane (q : ℕ) : ℕ := if q < 184 then q % 16 else q - 184

/-- A block whose first `r` rows are computed from the entries `fx`, the others being `fo`'s. -/
def rows (ta tb tc td : S1024.Idx → F .f32) (fx fo : S3x64x200.Idx → F .f32) (r : ℕ) (i : S3x64x200.Idx) : F .f32 :=
  if (i 1).val < r then cell ta tb tc td (fx i) (lane (i 2).val) else fo i

/-- A put at column `c` of row `r` read at an entry of the row left of column `c + 16`: the value, if the entries left of
    `c` hold theirs. -/
theorem put_cover {ta tb tc td : S1024.Idx → F .f32} {fx fo : S3x64x200.Idx → F .f32} {r c : ℕ} {i : S3x64x200.Idx} (hr : (i 1).val = r)
    (hc : (i 2).val < c + 16) (hl : c ≤ (i 2).val → lane (i 2).val = (i 2).val - c)
    (h : (i 2).val < c → fo i = cell ta tb tc td (fx i) (lane (i 2).val)) :
    put ta tb tc td fx fo r c i = cell ta tb tc td (fx i) (lane (i 2).val) := by
  by_cases h' : c ≤ (i 2).val
  · rw [hl h']; exact if_pos ⟨hr, h', hc⟩
  · rw [← h (by omega)]; exact if_neg fun h => h' h.2.1

/-- A put leaves the other rows. -/
theorem put_miss {ta tb tc td : S1024.Idx → F .f32} {fx fo : S3x64x200.Idx → F .f32} {r c : ℕ} {i : S3x64x200.Idx} (hr : (i 1).val ≠ r)
    {x : F .f32} (h : fo i = x) : put ta tb tc td fx fo r c i = x := (if_neg fun h => hr h.1).trans h

/-- Putting the thirteen pieces of row `r` in turn computes the row. -/
theorem put_row (ta tb tc td : S1024.Idx → F .f32) (fx fo : S3x64x200.Idx → F .f32) (r : ℕ) :
    put ta tb tc td fx (put ta tb tc td fx (put ta tb tc td fx (put ta tb tc td fx (put ta tb tc td fx (put ta tb tc td fx (put ta tb tc td fx
      (put ta tb tc td fx (put ta tb tc td fx (put ta tb tc td fx (put ta tb tc td fx (put ta tb tc td fx (put ta tb tc td fx (rows ta tb tc td fx fo r)
        r 0) r 16) r 32) r 48) r 64) r 80) r 96) r 112) r 128) r 144) r 160) r 176) r 184
      = rows ta tb tc td fx fo (r + 1) := by
  funext i
  have h2 : (i 2).val < 200 := (i 2).isLt
  by_cases hr : (i 1).val = r
  · have hR : rows ta tb tc td fx fo (r + 1) i = cell ta tb tc td (fx i) (lane (i 2).val) := if_pos (by omega)
    rw [hR]
    iterate 13 refine put_cover hr (by omega) (fun _ => by unfold lane; split_ifs <;> omega) fun _ => ?_
    omega
  · have hR : rows ta tb tc td fx fo (r + 1) i = rows ta tb tc td fx fo r i := by
      unfold rows
      by_cases h : (i 1).val < r
      · rw [if_pos h, if_pos (by omega)]
      · rw [if_neg h, if_neg (by omega)]
    rw [hR]
    iterate 13 refine put_miss hr ?_
    rfl

variable (d : Fin nD) (L : grid0.Coords)

/-- A piece at the head of a program: the rest runs with its sixteen values put. -/
theorem wp_piece_bind (ta tb tc td : S1024.Idx → F .f32) (fx fo : S3x64x200.Idx → F .f32) {o p : Fin 3 → ℕ} {n r c : ℕ}
    {ho : ∀ a, o a + S1x1x16.size a ≤ S3x64x200.size a} {hp : ∀ a, p a + S1x1x16.size a ≤ S3x64x200.size a}
    (eo : o = ![n, r, c]) (ep : p = ![n, r, c]) {rest : Unit → Prog (TpuEff nD τ sig (Elt F) Λ₀ (thrOf L)) Unit} {Q : Unit → sProp 𝕄}
    (h : iprop(tabs d L ta tb tc td ∗ xslot d L n fx ∗ oslot d L n (put ta tb tc td fx fo r c))
      ⊢ wp frame (wpE (defs₀ (F := F)) 𝒱₀ (V d (coreC L) (coreS L)) none) Set.univ (rest ()) Q) :
    iprop(tabs d L ta tb tc td ∗ xslot d L n fx ∗ oslot d L n fo)
      ⊢ wp frame (wpE (defs₀ (F := F)) 𝒱₀ (V d (coreC L) (coreS L)) none) Set.univ (piece L lanes c63 o p ho hp >>= rest) Q := by
  rw [wp_bind]
  exact (wp_piece d L ta tb tc td fx fo ho hp eo ep).trans (wp_mono frame _ _ fun _ => h)

/-- The row loop runs 64 times, the block loop 8. -/
theorem trips_row : k0_t2_loop.trips = 64 := by decide +kernel
theorem trips_block : k0_t1_loop.trips = 8 := by decide +kernel

set_option maxHeartbeats 2000000 in
/-- Row `t` of the block in slot `k % 3` is computed. -/
theorem wp_row (ta tb tc td : S1024.Idx → F .f32) (fx fo : S3x64x200.Idx → F .f32) (r0 r1 r2 r3 : DmaSems sig S_) (v2 : BitVec 32)
    (k : Fin k0_t1_loop.trips) (v56 : BitVec 32) (t : Fin k0_t2_loop.trips) :
    iprop(tabs d L ta tb tc td ∗ xslot d L (k.val % 3) fx ∗ oslot d L (k.val % 3) (rows ta tb tc td fx fo t.val))
      ⊢ wp frame (wpE (defs₀ (F := F)) 𝒱₀ (V d (coreC L) (coreS L)) none) Set.univ
          (k0_t2_body L tV (Memref.isWhole_whole _) xV (Memref.isWhole_whole _) oV (Memref.isWhole_whole _) aV (Memref.isWhole_whole _) bV (Memref.isWhole_whole _)
            cV (Memref.isWhole_whole _) dV (Memref.isWhole_whole _) xbV (Memref.isWhole_whole _) obV (Memref.isWhole_whole _) cc0_scratch6 cc0_scratch7
            r0 r1 r2 r3 v2 lanes c63 k v56 t ())
          fun _ => iprop(tabs d L ta tb tc td ∗ xslot d L (k.val % 3) fx ∗ oslot d L (k.val % 3) (rows ta tb tc td fx fo (t.val + 1))) := by
  rw [row_eq, ← put_row]
  refine wp_piece_bind d L ta tb tc td fx _ (k0_off8_eq k t) (k0_off9_eq k t) ?_
  refine wp_piece_bind d L ta tb tc td fx _ (k0_off10_eq k t) (k0_off11_eq k t) ?_
  refine wp_piece_bind d L ta tb tc td fx _ (k0_off12_eq k t) (k0_off13_eq k t) ?_
  refine wp_piece_bind d L ta tb tc td fx _ (k0_off14_eq k t) (k0_off15_eq k t) ?_
  refine wp_piece_bind d L ta tb tc td fx _ (k0_off16_eq k t) (k0_off17_eq k t) ?_
  refine wp_piece_bind d L ta tb tc td fx _ (k0_off18_eq k t) (k0_off19_eq k t) ?_
  refine wp_piece_bind d L ta tb tc td fx _ (k0_off20_eq k t) (k0_off21_eq k t) ?_
  refine wp_piece_bind d L ta tb tc td fx _ (k0_off22_eq k t) (k0_off23_eq k t) ?_
  refine wp_piece_bind d L ta tb tc td fx _ (k0_off24_eq k t) (k0_off25_eq k t) ?_
  refine wp_piece_bind d L ta tb tc td fx _ (k0_off26_eq k t) (k0_off27_eq k t) ?_
  refine wp_piece_bind d L ta tb tc td fx _ (k0_off28_eq k t) (k0_off29_eq k t) ?_
  refine wp_piece_bind d L ta tb tc td fx _ (k0_off30_eq k t) (k0_off31_eq k t) ?_
  refine wp_piece_bind d L ta tb tc td fx _ (k0_off32_eq k t) (k0_off33_eq k t) ?_
  iintro H
  sl_step
  iexact H

/-- What a block's entries become. -/
def image (ta tb tc td : S1024.Idx → F .f32) (fx : S3x64x200.Idx → F .f32) (i : S3x64x200.Idx) : F .f32 :=
  cell ta tb tc td (fx i) (lane (i 2).val)

/-- The row loop computes the block in slot `k % 3`. -/
theorem wp_rows (ta tb tc td : S1024.Idx → F .f32) (fx fo : S3x64x200.Idx → F .f32) (r0 r1 r2 r3 : DmaSems sig S_) (v2 : BitVec 32)
    (k : Fin k0_t1_loop.trips) (v56 : BitVec 32) :
    iprop(tabs d L ta tb tc td ∗ xslot d L (k.val % 3) fx ∗ oslot d L (k.val % 3) fo)
      ⊢ wp frame (wpE (defs₀ (F := F)) 𝒱₀ (V d (coreC L) (coreS L)) none) Set.univ
          (Scf.Loop.for k0_t2_loop k0_t2_ok ⟨⟩
            (k0_t2_body L tV (Memref.isWhole_whole _) xV (Memref.isWhole_whole _) oV (Memref.isWhole_whole _) aV (Memref.isWhole_whole _) bV (Memref.isWhole_whole _)
              cV (Memref.isWhole_whole _) dV (Memref.isWhole_whole _) xbV (Memref.isWhole_whole _) obV (Memref.isWhole_whole _) cc0_scratch6 cc0_scratch7
              r0 r1 r2 r3 v2 lanes c63 k v56))
          fun _ => iprop(tabs d L ta tb tc td ∗ xslot d L (k.val % 3) fx ∗ oslot d L (k.val % 3) (image ta tb tc td fx)) := by
  refine BIBase.Entails.trans ?_ (Scf.wp_for frame (wpE (defs₀ (F := F)) 𝒱₀ (V d (coreC L) (coreS L)) none) Set.univ _ _ _ k0_t2_ok PUnit.unit _
    (fun n _ => iprop(tabs d L ta tb tc td ∗ xslot d L (k.val % 3) fx ∗ oslot d L (k.val % 3) (rows ta tb tc td fx fo n)))
    (fun t _ => wp_row d L ta tb tc td fx fo r0 r1 r2 r3 v2 k v56 t))
  have h0 : rows ta tb tc td fx fo 0 = fo := rfl
  have h64 : rows ta tb tc td fx fo k0_t2_loop.trips = image ta tb tc td fx := by
    rw [trips_row]
    funext i
    exact if_pos (i 1).isLt
  rw [h0]
  iintro H
  isplitl [H]; · iexact H
  iintro %acc
  rw [show Scf.trips k0_t2_loop.lb k0_t2_loop.ub k0_t2_loop.st = k0_t2_loop.trips from rfl, h64]
  iintro H
  iexact H

end Cert.Proof.Spline

end
-- ==== Proof.Copies.lean ====
/-
  The copies between the arrays and the block buffers: which elements a copy's slot and rows are, what the slot holds
  once a copy in has landed, what the rows hold once a copy out has, and the start of either.
-/
module

public import proofs.«01_k».proof.Proof.Row
public import Idealize.ShloMosaic.Lib.ValueLayout

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Where the copies go -/

/-- The 64 rows from row `r` on of an array of 16384 rows. -/
def rowsS (r : ℕ) : Finset S16384x200.Idx := Finset.univ.filter fun i => r ≤ (i 0).val ∧ (i 0).val < r + 64

/-- The block read from row `r` of `x` on, whatever the slot it lies in. -/
def blk (x : S16384x200.Idx → F .f32) (r : ℕ) (i : S3x64x200.Idx) : F .f32 :=
  x (ix2 ⟨(r + (i 1).val) % 16384, Nat.mod_lt _ (by decide)⟩ ⟨(i 2).val, (i 2).isLt⟩)

/-- What the kernel writes at a row and column of the result. -/
def target (ta tb tc td : S1024.Idx → F .f32) (x : S16384x200.Idx → F .f32) (i : S16384x200.Idx) : F .f32 :=
  cell ta tb tc td (x i) (lane (i 1).val)

/-- Two places of an array of 16384 rows are one if their rows and columns agree. -/
theorem rows_ext {i j : S16384x200.Idx} (h0 : (i 0).val = (j 0).val) (h1 : (i 1).val = (j 1).val) : i = j := by
  funext a
  match a with
  | 0 => exact Fin.ext h0
  | 1 => exact Fin.ext h1

omit [FloatOps F] in
theorem slot_emb {sp : Space} {M : Memref sig .scVector sp S3x64x200 .f32} {o : Fin 3 → ℕ} {n : ℕ} (ho : ∀ a, o a + S1x64x200.size a ≤ S3x64x200.size a)
    (eo : o = ![n, 0, 0]) (hn : n < 3) (y : Fin 64) (z : Fin 200) :
    ((M.slice (Rect.unit (s := S3x64x200) o S1x64x200.size ho) (fun _ => rfl)).squeeze S64x200 squeezes_S1x64x200_S64x200).view.emb (ix2 y z)
      = M.view.emb (ix3 ⟨n, hn⟩ y z) := by
  subst eo
  show M.view.emb ((Rect.unit (s := S3x64x200) ![n, 0, 0] S1x64x200.size ho).emb (Shape.reshapeEquiv _ (ix2 y z))) = _
  rw [reshapeEquiv_ix2_1ab]
  refine congrArg M.view.emb (funext fun a => ?_)
  match a with
  | 0 => exact Fin.ext (show n + 1 * 0 = n by omega)
  | 1 => exact Fin.ext (show 0 + 1 * y.val = y.val by omega)
  | 2 => exact Fin.ext (show 0 + 1 * z.val = z.val by omega)

omit [FloatOps F] in
theorem rows_emb {sp : Space} {M : Memref sig .scVector sp S16384x200 .f32} {o : Fin 2 → ℕ} {r : ℕ} (ho : ∀ a, o a + S64x200.size a ≤ S16384x200.size a)
    (eo : o = ![r, 0]) (hr : r + 64 ≤ 16384) (y : Fin 64) (z : Fin 200) :
    (M.slice (Rect.unit (s := S16384x200) o S64x200.size ho) (fun _ => rfl)).view.emb (ix2 y z)
      = M.view.emb (ix2 ⟨r + y.val, by omega⟩ z) := by
  subst eo
  show M.view.emb ((Rect.unit (s := S16384x200) ![r, 0] S64x200.size ho).emb (ix2 y z)) = _
  refine congrArg M.view.emb (funext fun a => ?_)
  match a with
  | 0 => exact Fin.ext (show r + 1 * y.val = r + y.val by omega)
  | 1 => exact Fin.ext (show 0 + 1 * z.val = z.val by omega)

/-- A slot's elements are the buffer's at that slot number. -/
theorem unit_slot {o : Fin 3 → ℕ} {n : ℕ} (ho : ∀ a, o a + S1x64x200.size a ≤ S3x64x200.size a) (eo : o = ![n, 0, 0]) :
    (Rect.unit (s := S3x64x200) o S1x64x200.size ho).set = slotS n := by
  subst eo
  ext i
  refine Rect.mem_set_unit.trans ⟨fun h => Finset.mem_filter.mpr ⟨Finset.mem_univ _, ?_⟩, fun h a => ?_⟩
  · have h0 : n ≤ (i 0).val ∧ (i 0).val < n + 1 := h 0
    omega
  · have h0 : (i 0).val = n := (Finset.mem_filter.mp h).2
    match a with
    | 0 => exact ⟨le_of_eq h0.symm, by show (i 0).val < n + 1; omega⟩
    | 1 => exact ⟨Nat.zero_le _, by show (i 1).val < 0 + 64; have := (i 1).isLt; exact this.trans_le (by decide)⟩
    | 2 => exact ⟨Nat.zero_le _, by show (i 2).val < 0 + 200; have := (i 2).isLt; exact this.trans_le (by decide)⟩

theorem unit_rows {o : Fin 2 → ℕ} {r : ℕ} (ho : ∀ a, o a + S64x200.size a ≤ S16384x200.size a) (eo : o = ![r, 0]) :
    (Rect.unit (s := S16384x200) o S64x200.size ho).set = rowsS r := by
  subst eo
  ext i
  refine Rect.mem_set_unit.trans ⟨fun h => Finset.mem_filter.mpr ⟨Finset.mem_univ _, h 0⟩, fun h a => ?_⟩
  match a with
  | 0 => exact (Finset.mem_filter.mp h).2
  | 1 => exact ⟨Nat.zero_le _, by show (i 1).val < 0 + 200; have := (i 1).isLt; exact this.trans_le (by decide)⟩

/-- The memref of a slot of the block buffer the entries come in, and of the one the results go out from. -/
abbrev xSlot (o : Fin 3 → ℕ) (ho : ∀ a, o a + S1x64x200.size a ≤ S3x64x200.size a) : Memref sig .scVector .vmem S64x200 .f32 :=
  (xbV.slice (Rect.unit (s := S3x64x200) o S1x64x200.size ho) (fun _ => rfl)).squeeze S64x200 squeezes_S1x64x200_S64x200
abbrev oSlot (o : Fin 3 → ℕ) (ho : ∀ a, o a + S1x64x200.size a ≤ S3x64x200.size a) : Memref sig .scVector .vmem S64x200 .f32 :=
  (obV.slice (Rect.unit (s := S3x64x200) o S1x64x200.size ho) (fun _ => rfl)).squeeze S64x200 squeezes_S1x64x200_S64x200

/-- The memref of 64 rows of `x`, and of the result. -/
abbrev xRows (o : Fin 2 → ℕ) (ho : ∀ a, o a + S64x200.size a ≤ S16384x200.size a) : Memref sig .scVector .hbm S64x200 .f32 :=
  xV.slice (Rect.unit (s := S16384x200) o S64x200.size ho) (fun _ => rfl)
abbrev oRows (o : Fin 2 → ℕ) (ho : ∀ a, o a + S64x200.size a ≤ S16384x200.size a) : Memref sig .scVector .hbm S64x200 .f32 :=
  oV.slice (Rect.unit (s := S16384x200) o S64x200.size ho) (fun _ => rfl)

theorem set_xSlot {o : Fin 3 → ℕ} {n : ℕ} (ho : ∀ a, o a + S1x64x200.size a ≤ S3x64x200.size a) (eo : o = ![n, 0, 0]) :
    (xSlot o ho).view.set = slotS n := ((View.set_reshape _ _).trans (View.set_slice_whole _ _)).trans (unit_slot ho eo)
theorem set_oSlot {o : Fin 3 → ℕ} {n : ℕ} (ho : ∀ a, o a + S1x64x200.size a ≤ S3x64x200.size a) (eo : o = ![n, 0, 0]) :
    (oSlot o ho).view.set = slotS n := ((View.set_reshape _ _).trans (View.set_slice_whole _ _)).trans (unit_slot ho eo)
theorem set_xRows {o : Fin 2 → ℕ} {r : ℕ} (ho : ∀ a, o a + S64x200.size a ≤ S16384x200.size a) (eo : o = ![r, 0]) :
    (xRows o ho).view.set = rowsS r := (View.set_slice_whole _ _).trans (unit_rows ho eo)
theorem set_oRows {o : Fin 2 → ℕ} {r : ℕ} (ho : ∀ a, o a + S64x200.size a ≤ S16384x200.size a) (eo : o = ![r, 0]) :
    (oRows o ho).view.set = rowsS r := (View.set_slice_whole _ _).trans (unit_rows ho eo)

/-- A slot written with the rows from `r` on of `x` holds the block there. -/
theorem write_in (x : S16384x200.Idx → F .f32) (f : S3x64x200.Idx → F .f32) {o : Fin 3 → ℕ} {p : Fin 2 → ℕ} {n r : ℕ}
    (ho : ∀ a, o a + S1x64x200.size a ≤ S3x64x200.size a) (hp : ∀ a, p a + S64x200.size a ≤ S16384x200.size a)
    (eo : o = ![n, 0, 0]) (ep : p = ![r, 0]) (hn : n < 3) (hr : r + 64 ≤ 16384) (i : S3x64x200.Idx) (hi : i ∈ slotS n) :
    (xSlot o ho).view.write (Elt F) f ((xRows p hp).view.read (Elt F) x) Finset.univ i = blk x r i := by
  have h0 : (i 0).val = n := (Finset.mem_filter.mp hi).2
  have e : i = (xSlot o ho).view.emb (ix2 ⟨(i 1).val, (i 1).isLt⟩ ⟨(i 2).val, (i 2).isLt⟩) := by
    rw [slot_emb ho eo hn]
    funext a
    match a with
    | 0 => exact Fin.ext h0
    | 1 => rfl
    | 2 => rfl
  conv_lhs => rw [e]
  rw [View.write_emb_of_mem _ _ (Finset.mem_univ _), View.read_apply, rows_emb hp ep hr]
  refine (cast_eq _ _).trans ((cast_eq _ _).trans ?_)
  unfold blk
  exact congrArg x (rows_ext (show r + (i 1).val = (r + (i 1).val) % 16384 from
    (Nat.mod_eq_of_lt (by have : (i 1).val < 64 := (i 1).isLt; omega)).symm) rfl)

/-- Rows of the result written with a slot holding the image of `x`'s rows there hold the kernel's values. -/
theorem write_out (ta tb tc td : S1024.Idx → F .f32) (x f : S16384x200.Idx → F .f32) {o : Fin 3 → ℕ} {p : Fin 2 → ℕ} {n r : ℕ}
    (ho : ∀ a, o a + S1x64x200.size a ≤ S3x64x200.size a) (hp : ∀ a, p a + S64x200.size a ≤ S16384x200.size a)
    (eo : o = ![n, 0, 0]) (ep : p = ![r, 0]) (hn : n < 3) (hr : r + 64 ≤ 16384) (i : S16384x200.Idx) (hi : i ∈ rowsS r) :
    (oRows p hp).view.write (Elt F) f ((oSlot o ho).view.read (Elt F) (image ta tb tc td (blk x r))) Finset.univ i = target ta tb tc td x i := by
  have h0 : r ≤ (i 0).val ∧ (i 0).val < r + 64 := (Finset.mem_filter.mp hi).2
  have e : i = (oRows p hp).view.emb (ix2 ⟨(i 0).val - r, by omega⟩ ⟨(i 1).val, (i 1).isLt⟩) := by
    rw [rows_emb hp ep hr]
    exact rows_ext (show (i 0).val = r + ((i 0).val - r) by omega) rfl
  conv_lhs => rw [e]
  rw [View.write_emb_of_mem _ _ (Finset.mem_univ _), View.read_apply, slot_emb ho eo hn]
  refine (cast_eq _ _).trans ((cast_eq _ _).trans ?_)
  show cell ta tb tc td (blk x r _) (lane (i 1).val) = cell ta tb tc td (x i) (lane (i 1).val)
  congr 1
  unfold blk
  exact congrArg x (rows_ext (show (r + ((i 0).val - r)) % 16384 = (i 0).val from by rw [Nat.mod_eq_of_lt (by omega)]; omega) rfl)

/-! ## The copies' semaphores -/

/-- The semaphore of an array of three at offset `o`. -/
abbrev semAt (A : DmaSems sig S3) (o : Fin 1 → ℕ) (ho : ∀ a, o a + S1.size a ≤ S3.size a) : DmaSem sig :=
  ((A.slice (Rect.unit (s := S3) o S1.size ho)).squeeze S_ squeezes_S1_S_).sem

theorem sem_inb (n : ℕ) : ∀ a : Fin 1, (![n % 3] : Fin 1 → ℕ) a + S1.size a ≤ S3.size a := fun a => by
  match a with
  | 0 => show n % 3 + 1 ≤ 3; omega

/-- The semaphore of block `b`'s copies. -/
def semN (A : DmaSems sig S3) (b : ℕ) : DmaSem sig := semAt A ![b % 3] (sem_inb b)

theorem semAt_eq (A : DmaSems sig S3) {o : Fin 1 → ℕ} (ho : ∀ a, o a + S1.size a ≤ S3.size a) {b : ℕ} (eo : o = ![b % 3]) : semAt A o ho = semN A b := by
  subst eo; rfl

theorem semN_add (A : DmaSems sig S3) (b : ℕ) : semN A (b + 3) = semN A b :=
  semAt_eq A (sem_inb (b + 3)) (by rw [Nat.add_mod_right])

/-! ## The copies -/

variable (d : Dev nD) (L : grid0.Coords)

/-- 64 rows of `x`, and of the result, from row `r` on. -/
def xpart (x : S16384x200.Idx → F .f32) (r : ℕ) : sProp 𝕄 := xV.view.loc (V d (coreC L) (coreS L)) ↦[rowsS r]{fullShare} x
def opart (f : S16384x200.Idx → F .f32) (r : ℕ) : sProp 𝕄 := oV.view.loc (V d (coreC L) (coreS L)) ↦[rowsS r]{fullShare} f

/-- The bytes a block's copy is counted by. -/
abbrev NB : ℕ := (xSlot ![0, 0, 0] inb_S3x64x200_S1x64x200_0_0_0).view.dmaCredit

/-- A block's copy in, in flight: it delivers the slot holding the block, and the rows back. -/
def inFlight (x : S16384x200.Idx → F .f32) (sm : DmaSem sig) (n r : ℕ) : sProp 𝕄 :=
  Transfers.Flight countersEmb (V d (coreC L) (coreS L)) (.dma sm) (default : HIx 1) NB iprop(xslot d L n (blk x r) ∗ xpart d L x r)

/-- A block's copy out, in flight: it delivers the rows of the result at the kernel's values, and the slot back. -/
def outFlight (ta tb tc td : S1024.Idx → F .f32) (x : S16384x200.Idx → F .f32) (sm : DmaSem sig) (n r : ℕ) : sProp 𝕄 :=
  Transfers.Flight countersEmb (V d (coreC L) (coreS L)) (.dma sm) (default : HIx 1) NB
    iprop(opart d L (target ta tb tc td x) r ∗ ∃ f, oslot d L n f)

/-- A copy in starts. -/
theorem wp_in {α : Type} {Q : α → sProp 𝕄} (x : S16384x200.Idx → F .f32) {o : Fin 3 → ℕ} {p : Fin 2 → ℕ} {n r : ℕ}
    {ho : ∀ a, o a + S1x64x200.size a ≤ S3x64x200.size a} {hp : ∀ a, p a + S64x200.size a ≤ S16384x200.size a}
    (eo : o = ![n, 0, 0]) (ep : p = ![r, 0]) (hn : n < 3) (hr : r + 64 ≤ 16384) {sm sm' : DmaSem sig} (es : sm = sm')
    {hsrc : (xRows p hp).view.WordExact} {hdst : (xSlot o ho).view.WordExact} {hsem : DmaTarget.Typed (nD := nD) .hbm (.dma sm) (DmaTarget.here (p := thrOf L) (xSlot o ho))}
    {k : PUnit → Prog (TpuEff nD τ sig (Elt F) Λ₀ (thrOf L)) α} :
    iprop(xpart d L x r ∗ (∃ f, xslot d L n f) ∗ semVal (V d (coreC L) (coreS L), SemLoc.dma sm') 0)
      ⊢ iprop((inFlight d L x sm' n r -∗ wp frame (wpE (defs₀ (F := F)) 𝒱₀ (V d (coreC L) (coreS L)) none) Set.univ (k ⟨⟩) Q)
          -∗ wp frame (wpE (defs₀ (F := F)) 𝒱₀ (V d (coreC L) (coreS L)) none) Set.univ
              (.op (.enqueueDma (xRows p hp) (.here (xSlot o ho)) (.dma sm) hsrc hdst hsem) k) Q) := by
  subst es
  unfold inFlight xpart xslot
  iintro ⟨Hx, ⟨%f, Hs⟩, Hv⟩ Hk
  iapply (Transfers.wp_dmaLocal countersEmb 𝒱₀ (V d (coreC L) (coreS L)) none (q := fullShare) (fs := x) (Sd := slotS n) (fd := f) (default : HIx 1) NB rfl (by decide)
    (subset_of_eq (set_xSlot ho eo))) $$ [Hx Hs Hv]
  · isplitl [Hx]
    · iapply (Entails.of_eq (by rw [set_xRows hp ep])) $$ Hx
    isplitl [Hs]; · iexact Hs
    iexact Hv
  iintro HF
  iapply Hk
  iapply (Transfers.Flight_mono countersEmb _ ?_) $$ HF
  iintro ⟨Hs, Hx⟩
  isplitl [Hs]
  · iapply (Entails.of_eq (pointsTo_congr fun i hi => write_in x f ho hp eo ep hn hr i hi)) $$ Hs
  · iapply (Entails.of_eq (by rw [set_xRows hp ep])) $$ Hx

/-- A copy out starts. -/
theorem wp_out {α : Type} {Q : α → sProp 𝕄} (ta tb tc td : S1024.Idx → F .f32) (x : S16384x200.Idx → F .f32) {o : Fin 3 → ℕ} {p : Fin 2 → ℕ} {n r : ℕ}
    {ho : ∀ a, o a + S1x64x200.size a ≤ S3x64x200.size a} {hp : ∀ a, p a + S64x200.size a ≤ S16384x200.size a}
    (eo : o = ![n, 0, 0]) (ep : p = ![r, 0]) (hn : n < 3) (hr : r + 64 ≤ 16384) {sm sm' : DmaSem sig} (es : sm = sm')
    {hsrc : (oSlot o ho).view.WordExact} {hdst : (oRows p hp).view.WordExact} {hsem : DmaTarget.Typed (nD := nD) .vmem (.dma sm) (DmaTarget.here (p := thrOf L) (oRows p hp))}
    {k : PUnit → Prog (TpuEff nD τ sig (Elt F) Λ₀ (thrOf L)) α} :
    iprop(oslot d L n (image ta tb tc td (blk x r)) ∗ (∃ f, opart d L f r) ∗ semVal (V d (coreC L) (coreS L), SemLoc.dma sm') 0)
      ⊢ iprop((outFlight d L ta tb tc td x sm' n r -∗ wp frame (wpE (defs₀ (F := F)) 𝒱₀ (V d (coreC L) (coreS L)) none) Set.univ (k ⟨⟩) Q)
          -∗ wp frame (wpE (defs₀ (F := F)) 𝒱₀ (V d (coreC L) (coreS L)) none) Set.univ
              (.op (.enqueueDma (oSlot o ho) (.here (oRows p hp)) (.dma sm) hsrc hdst hsem) k) Q) := by
  subst es
  unfold outFlight opart oslot
  iintro ⟨Hs, ⟨%f, Ho⟩, Hv⟩ Hk
  iapply (Transfers.wp_dmaLocal countersEmb 𝒱₀ (V d (coreC L) (coreS L)) none (q := fullShare) (fs := image ta tb tc td (blk x r)) (Sd := rowsS r) (fd := f)
    (default : HIx 1) NB rfl (by decide) (subset_of_eq (set_oRows hp ep))) $$ [Hs Ho Hv]
  · isplitl [Hs]
    · iapply (Entails.of_eq (by rw [set_oSlot ho eo])) $$ Hs
    isplitl [Ho]; · iexact Ho
    iexact Hv
  iintro HF
  iapply Hk
  iapply (Transfers.Flight_mono countersEmb _ ?_) $$ HF
  iintro ⟨Ho, Hs⟩
  isplitl [Ho]
  · iapply (Entails.of_eq (pointsTo_congr fun i hi => write_out ta tb tc td x f ho hp eo ep hn hr i hi)) $$ Ho
  · iexists _
    iapply (Entails.of_eq (by rw [set_oSlot ho eo])) $$ Hs

/-! ## Waits, and a program run piece by piece -/

/-- What the task owes the launch while it runs: its debts as handed in, and waits recorded of no handshake. -/
def owed (O : CellTallies nD τ sig (HIx 1)) (W : Waits sig (HIx 1)) : sProp 𝕄 :=
  iprop(∃ W', ⌜∀ p ∈ W', p ∈ W ∨ p.2 = none⌝ ∗ owes (V d (coreC L) (coreS L)) O W')

/-- The evidence that the task may wait on its own semaphores. -/
abbrev levels : sProp 𝕄 := levAts (K (F := F)).L (K (F := F)).lev

/-- A wait takes what the copy delivers. -/
theorem wp_wait {α : Type} {Q : α → sProp 𝕄} {O : CellTallies nD τ sig (HIx 1)} {W : Waits sig (HIx 1)} (hO : ∀ g, O g none = 0)
    {sp sp' : Space} {s s' : Shape} {e e' : EltTy} {sm sm' : DmaSem sig} (es : sm = sm') {D : sProp 𝕄}
    {src : Memref sig .scVector sp' s' e'} {dst : Memref sig .scVector sp s e} {hsrc : src.view.WordExact} {hdst : dst.view.WordExact}
    {k : PUnit → Prog (TpuEff nD τ sig (Elt F) Λ₀ (thrOf L)) α} :
    iprop(levels ∗ Transfers.Flight countersEmb (V d (coreC L) (coreS L)) (.dma sm') (default : HIx 1) dst.view.dmaCredit D ∗ owed d L O W)
      ⊢ iprop((iprop(D ∗ semVal (V d (coreC L) (coreS L), SemLoc.dma sm') 0 ∗ owed d L O W)
            -∗ wp frame (wpE (defs₀ (F := F)) 𝒱₀ (V d (coreC L) (coreS L)) none) Set.univ (k ⟨⟩) Q)
          -∗ wp frame (wpE (defs₀ (F := F)) 𝒱₀ (V d (coreC L) (coreS L)) none) Set.univ (.op (.waitDma2 sm src dst hsrc hdst) k) Q) := by
  subst es
  unfold levels owed
  iintro ⟨Hlv, HF, ⟨%W', %hW, HO⟩⟩ Hk
  ihave Hmw := (show levAts (K (F := F)).L (K (F := F)).lev ⊢ Transfers.MayWaits (V d (coreC L) (coreS L)) (default : HIx 1) O from
    (K (F := F)).mayWaits_none (thr := V d (coreC L) (coreS L)) hO) $$ Hlv
  ihave Hm := (Transfers.MayWaits.elim (SemLoc.dma sm)) $$ Hmw
  iapply (Transfers.wp_waitLocalO countersEmb 𝒱₀ (V d (coreC L) (coreS L)) none (default : HIx 1) rfl) $$ [HF HO Hm]
  · isplitl [HF]; · iexact HF
    isplitl [HO]; · iexact HO
    iexact Hm
  iintro ⟨HD, Hv, HO⟩
  iapply Hk
  isplitl [HD]; · iexact HD
  isplitl [Hv]; · iexact Hv
  iexists _
  isplitr
  rotate_left
  · iexact HO
  · ipureintro
    intro p hp
    rcases Finset.mem_insert.mp hp with h | h
    · exact .inr (by rw [h]; rfl)
    · exact hW p h

/-- A program's first part run on its own: what it leaves, the rest starts from. -/
theorem wp_cut {α β : Type} {P : sProp 𝕄} (R : α → sProp 𝕄) {p : Prog (TpuEff nD τ sig (Elt F) Λ₀ (thrOf L)) α}
    {k : α → Prog (TpuEff nD τ sig (Elt F) Λ₀ (thrOf L)) β} {Q : β → sProp 𝕄}
    (h : P ⊢ wp frame (wpE (defs₀ (F := F)) 𝒱₀ (V d (coreC L) (coreS L)) none) Set.univ p R) :
    P ⊢ iprop((∀ a, R a -∗ wp frame (wpE (defs₀ (F := F)) 𝒱₀ (V d (coreC L) (coreS L)) none) Set.univ (k a) Q)
      -∗ wp frame (wpE (defs₀ (F := F)) 𝒱₀ (V d (coreC L) (coreS L)) none) Set.univ (p >>= k) Q) := by
  rw [wp_bind]
  iintro HP HK
  ihave HW := h $$ HP
  iapply (wp_wand_r frame _ _) $$ [HW HK]
  isplitl [HW]; · iexact HW
  iexact HK

end Cert.Proof.Spline

end
-- ==== Proof.Blocks.lean ====
/-
  The loop over a task's eight blocks: three copies in and three copies out in flight, the block whose copy in lands
  computed row by row, the rows of the result its copy out lands in left at the kernel's values.
-/
module

public import proofs.«01_k».proof.Proof.Copies

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The first row of block `b` of the task. -/
def row (b : ℕ) : ℕ := 1024 * (L 1).val + 512 * (L 0).val + 64 * b

theorem row_le {b : ℕ} (hb : b < 8) : row L b + 64 ≤ 16384 := by
  have h0 : (L 0).val < 2 := (L 0).isLt
  have h1 : (L 1).val < 16 := (L 1).isLt
  unfold row; omega

variable (ta tb tc td : S1024.Idx → F .f32) (x : S16384x200.Idx → F .f32)

/-- The copy in of block `j`, in flight; past the last block, its slot and semaphore, free. -/
def inRes (j : ℕ) : sProp 𝕄 :=
  if j < 8 then inFlight d L x (semN cc0_scratch6 j) (j % 3) (row L j)
  else iprop((∃ f, xslot d L (j % 3) f) ∗ semVal (V d (coreC L) (coreS L), SemLoc.dma (semN cc0_scratch6 j)) 0)

/-- The copy out of block `j - 3`, in flight; before the first block, its slot and semaphore, free. -/
def outRes (j : ℕ) : sProp 𝕄 :=
  if j < 3 then iprop((∃ f, oslot d L (j % 3) f) ∗ semVal (V d (coreC L) (coreS L), SemLoc.dma (semN cc0_scratch7 j)) 0)
  else outFlight d L ta tb tc td x (semN cc0_scratch7 j) (j % 3) (row L (j - 3))

/-- The rows of the result done before trip `k`. -/
def done (k : ℕ) : sProp 𝕄 := bigSep (Finset.range (k - 3)) fun b => opart d L (target ta tb tc td x) (row L b)

/-- The loop's state before trip `k`. -/
def state (O : CellTallies nD τ sig (HIx 1)) (W : Waits sig (HIx 1)) (k : ℕ) : sProp 𝕄 :=
  iprop(levels ∗ tabs d L ta tb tc td
    ∗ (inRes d L x k ∗ inRes d L x (k + 1) ∗ inRes d L x (k + 2))
    ∗ (outRes d L ta tb tc td x k ∗ outRes d L ta tb tc td x (k + 1) ∗ outRes d L ta tb tc td x (k + 2))
    ∗ (bigSep (Finset.range k) fun b => xpart d L x (row L b))
    ∗ (bigSep (Finset.Ico (k + 3) 8) fun b => xpart d L x (row L b))
    ∗ done d L ta tb tc td x k
    ∗ (bigSep (Finset.Ico k 8) fun b => iprop(∃ f, opart d L f (row L b)))
    ∗ owed d L O W)

omit [FloatOps F] in
theorem bigSep_range_one (k : ℕ) (Φ : ℕ → sProp 𝕄) : bigSep (Finset.range (k + 1)) Φ = iprop(Φ k ∗ bigSep (Finset.range k) Φ) := by
  rw [Finset.range_add_one, SparseCore.bigSep_insert' Finset.notMem_range_self]

omit [FloatOps F] in
theorem bigSep_Ico_one {k n : ℕ} (h : k < n) (Φ : ℕ → sProp 𝕄) : bigSep (Finset.Ico k n) Φ = iprop(Φ k ∗ bigSep (Finset.Ico (k + 1) n) Φ) := by
  rw [← Finset.insert_Ico_add_one_left_eq_Ico h, SparseCore.bigSep_insert' (by simp)]

/-- The copy out three blocks back is waited for from the fourth block on; the copy in three blocks ahead is started for
    the first five. -/
theorem cond1_iff : ∀ k : Fin k0_t1_loop.trips, k0_cond1 k = 1#1 ↔ 3 ≤ k.val := by decide +kernel
theorem cond2_iff : ∀ k : Fin k0_t1_loop.trips, k0_cond2 k = 1#1 ↔ k.val + 3 < 8 := by decide +kernel

/-- A trip's program: the wait for the copy in, the wait for the slot's last copy out from the fourth trip on, the rows, the
    copy out, the copy in of the block three ahead for the first five trips. -/
def tripProg (r0 r1 r2 r3 : DmaSems sig S_) (v2 : BitVec 32) (k : Fin k0_t1_loop.trips) (v56 : BitVec 32) : Prog (TpuEff nD τ sig (Elt F) Λ₀ (thrOf L)) Unit :=
  .op (.waitDma2 (semAt cc0_scratch6 (k0_off4 k) (k0_off4_inb k)) (xRows (k0_off3 L) (k0_off3_inb L)) (xSlot (k0_off2 k) (k0_off2_inb k))
    (View.wordExact_bits rfl) ((View.wordExact_bits rfl).reshape _ _)) fun _ =>
  (if h : k0_cond1 k = 1#1 then
      .op (.waitDma2 (semAt cc0_scratch7 (k0_off7 k) (k0_off7_inb k h)) (oSlot (k0_off5 k) (k0_off5_inb k h)) (oRows (k0_off6 L) (k0_off6_inb L k h))
        ((View.wordExact_bits rfl).reshape _ _) (View.wordExact_bits rfl)) .ret
    else .ret ⟨⟩ : Prog (TpuEff nD τ sig (Elt F) Λ₀ (thrOf L)) PUnit) >>= fun _ =>
  Scf.Loop.for k0_t2_loop k0_t2_ok ⟨⟩ (k0_t2_body L tV (Memref.isWhole_whole _) xV (Memref.isWhole_whole _) oV (Memref.isWhole_whole _)
    aV (Memref.isWhole_whole _) bV (Memref.isWhole_whole _) cV (Memref.isWhole_whole _) dV (Memref.isWhole_whole _) xbV (Memref.isWhole_whole _)
    obV (Memref.isWhole_whole _) cc0_scratch6 cc0_scratch7 r0 r1 r2 r3 v2 lanes c63 k v56) >>= fun _ =>
  .op (.enqueueDma (oSlot (k0_off2 k) (k0_off2_inb k)) (.here (oRows (k0_off34 L k) (k0_off34_inb L k))) (.dma (semAt cc0_scratch7 (k0_off4 k) (k0_off4_inb k)))
    ((View.wordExact_bits rfl).reshape _ _) (View.wordExact_bits rfl) ⟨Or.inl rfl, trivial⟩) fun _ =>
  (if h : k0_cond2 k = 1#1 then
      .op (.enqueueDma (xRows (k0_off36 L k) (k0_off36_inb L k h)) (.here (xSlot (k0_off35 k) (k0_off35_inb k h))) (.dma (semAt cc0_scratch6 (k0_off37 k) (k0_off37_inb k h)))
        (View.wordExact_bits rfl) ((View.wordExact_bits rfl).reshape _ _) ⟨Or.inl rfl, trivial⟩) .ret
    else .ret ⟨⟩ : Prog (TpuEff nD τ sig (Elt F) Λ₀ (thrOf L)) PUnit) >>= fun _ => .ret ()

set_option maxRecDepth 65536 in
set_option maxHeartbeats 4000000 in
theorem trip_eq (r0 r1 r2 r3 : DmaSems sig S_) (v2 : BitVec 32) (k : Fin k0_t1_loop.trips) :
    k0_t1_body (F := F) L tV (Memref.isWhole_whole _) xV (Memref.isWhole_whole _) oV (Memref.isWhole_whole _) aV (Memref.isWhole_whole _) bV (Memref.isWhole_whole _)
        cV (Memref.isWhole_whole _) dV (Memref.isWhole_whole _) xbV (Memref.isWhole_whole _) obV (Memref.isWhole_whole _) cc0_scratch6 cc0_scratch7
        r0 r1 r2 r3 v2 lanes c63 k ()
      = tripProg L r0 r1 r2 r3 v2 k (Scalar.remsi (Scf.iv 0#32 1#32 k) 3#32) := by
  unfold k0_t1_body tripProg
  simp only [Prog.lift, Prog.bind_op, Prog.bind_ret, Prog.pure_eq_ret, Prog.bind_assoc]
  by_cases h1 : k0_cond1 k = 1#1 <;> by_cases h2 : k0_cond2 k = 1#1
  · rw [dif_pos h1, dif_pos h1]; simp only [dif_pos h2, Prog.bind_op, Prog.bind_ret]
  · rw [dif_pos h1, dif_pos h1]; simp only [dif_neg h2, Prog.bind_op, Prog.bind_ret]
  · rw [dif_neg h1, dif_neg h1]; simp only [dif_pos h2, Prog.bind_op, Prog.bind_ret]
  · rw [dif_neg h1, dif_neg h1]; simp only [dif_neg h2, Prog.bind_op, Prog.bind_ret]

variable {ta tb tc td x}

set_option maxHeartbeats 4000000 in
/-- One trip: block `k` in, computed, out. -/
theorem trip {O : CellTallies nD τ sig (HIx 1)} {W : Waits sig (HIx 1)} (hO : ∀ g, O g none = 0) (r0 r1 r2 r3 : DmaSems sig S_) (v2 : BitVec 32)
    (k : Fin k0_t1_loop.trips) :
    state d L ta tb tc td x O W k.val
      ⊢ wp frame (wpE (defs₀ (F := F)) 𝒱₀ (V d (coreC L) (coreS L)) none) Set.univ
          (k0_t1_body L tV (Memref.isWhole_whole _) xV (Memref.isWhole_whole _) oV (Memref.isWhole_whole _) aV (Memref.isWhole_whole _) bV (Memref.isWhole_whole _)
            cV (Memref.isWhole_whole _) dV (Memref.isWhole_whole _) xbV (Memref.isWhole_whole _) obV (Memref.isWhole_whole _) cc0_scratch6 cc0_scratch7
            r0 r1 r2 r3 v2 lanes c63 k ())
          fun _ => state d L ta tb tc td x O W (k.val + 1) := by
  have hk : k.val < 8 := trips_block ▸ k.isLt
  have h3 : k.val % 3 < 3 := Nat.mod_lt _ (by decide)
  have m3 : (k.val + 3) % 3 = k.val % 3 := Nat.add_mod_right _ _
  rw [trip_eq]
  unfold tripProg
  have hin : inRes d L x k.val = inFlight d L x (semN cc0_scratch6 k.val) (k.val % 3) (row L k.val) := if_pos hk
  unfold state
  rw [hin, bigSep_Ico_one hk]
  iintro ⟨#Hlv, Ht, ⟨Hi0, Hi1, Hi2⟩, ⟨Ho0, Ho1, Ho2⟩, Hxd, Hxt, Hod, ⟨Hok, Hot⟩, HO⟩
  -- the block's copy in lands
  iapply (wp_wait d L hO (semAt_eq cc0_scratch6 (k0_off4_inb k) (k0_off4_eq k)) (D := iprop(xslot d L (k.val % 3) (blk x (row L k.val)) ∗ xpart d L x (row L k.val))) (W := W)) $$ [Hi0 HO]
  · isplitr; · iexact Hlv
    isplitl [Hi0]; · unfold inFlight; iexact Hi0
    iexact HO
  iintro ⟨⟨Hs, Hx⟩, Hvi, HO⟩
  -- the slot the results go to is free, by the wait or from the start
  iapply (wp_cut d L (P := iprop(levels ∗ outRes d L ta tb tc td x k.val ∗ done d L ta tb tc td x k.val ∗ owed d L O W))
    (fun _ => iprop(((∃ f, oslot d L (k.val % 3) f) ∗ semVal (V d (coreC L) (coreS L), SemLoc.dma (semN cc0_scratch7 k.val)) 0)
      ∗ done d L ta tb tc td x (k.val + 1) ∗ owed d L O W)) ?_) $$ [Ho0 Hod HO]
  · by_cases h : k0_cond1 k = 1#1
    · have h' := (cond1_iff k).mp h
      have ho : outRes d L ta tb tc td x k.val = outFlight d L ta tb tc td x (semN cc0_scratch7 k.val) (k.val % 3) (row L (k.val - 3)) := if_neg (by omega)
      have hd : done d L ta tb tc td x (k.val + 1) = iprop(opart d L (target ta tb tc td x) (row L (k.val - 3)) ∗ done d L ta tb tc td x k.val) := by
        unfold done
        rw [show k.val + 1 - 3 = (k.val - 3) + 1 by omega, bigSep_range_one]
      rw [dif_pos h, ho, hd]
      iintro ⟨#Hlv, Ho, Hd, HO⟩
      iapply (wp_wait d L hO (semAt_eq cc0_scratch7 (k0_off7_inb k h) (k0_off7_eq k))
        (D := iprop(opart d L (target ta tb tc td x) (row L (k.val - 3)) ∗ ∃ f, oslot d L (k.val % 3) f)) (W := W)) $$ [Ho HO]
      · isplitr; · iexact Hlv
        isplitl [Ho]; · unfold outFlight; iexact Ho
        iexact HO
      iintro ⟨⟨Hp, Hs⟩, Hv, HO⟩
      sl_step
      isplitl [Hs Hv]
      · isplitl [Hs]; · iexact Hs
        iexact Hv
      isplitl [Hp Hd]
      · isplitl [Hp]; · iexact Hp
        iexact Hd
      iexact HO
    · have h' : ¬ 3 ≤ k.val := fun e => h ((cond1_iff k).mpr e)
      have ho : outRes d L ta tb tc td x k.val = iprop((∃ f, oslot d L (k.val % 3) f) ∗ semVal (V d (coreC L) (coreS L), SemLoc.dma (semN cc0_scratch7 k.val)) 0) := if_pos (by omega)
      have hd : done d L ta tb tc td x (k.val + 1) = done d L ta tb tc td x k.val := by
        unfold done
        rw [show k.val + 1 - 3 = k.val - 3 by omega]
      rw [dif_neg h, ho, hd]
      iintro ⟨-, Ho, Hd, HO⟩
      sl_step
      isplitl [Ho]; · iexact Ho
      isplitl [Hd]; · iexact Hd
      iexact HO
  · isplitr; · iexact Hlv
    isplitl [Ho0]; · iexact Ho0
    isplitl [Hod]; · iexact Hod
    iexact HO
  iintro %_ ⟨⟨⟨%fo, Hos⟩, Hvo⟩, Hod, HO⟩
  -- the rows
  iapply (wp_cut d L _ (wp_rows d L ta tb tc td (blk x (row L k.val)) fo r0 r1 r2 r3 v2 k _)) $$ [Ht Hs Hos]
  · isplitl [Ht]; · iexact Ht
    isplitl [Hs]; · iexact Hs
    iexact Hos
  iintro %_ ⟨Ht, Hs, Hos⟩
  -- the block's copy out starts
  iapply (wp_out d L ta tb tc td x (k0_off2_eq k) (k0_off34_eq L k) h3 (row_le L hk) (semAt_eq cc0_scratch7 (k0_off4_inb k) (k0_off4_eq k))) $$ [Hos Hok Hvo]
  · isplitl [Hos]; · iexact Hos
    isplitl [Hok]; · iexact Hok
    iexact Hvo
  iintro Hout
  -- the copy in of the block three ahead starts, if there is one
  iapply (wp_cut d L (P := iprop((∃ f, xslot d L ((k.val + 3) % 3) f) ∗ semVal (V d (coreC L) (coreS L), SemLoc.dma (semN cc0_scratch6 (k.val + 3))) 0
      ∗ bigSep (Finset.Ico (k.val + 3) 8) fun b => xpart d L x (row L b)))
    (fun _ => iprop(inRes d L x (k.val + 3) ∗ bigSep (Finset.Ico (k.val + 1 + 3) 8) fun b => xpart d L x (row L b))) ?_) $$ [Hs Hvi Hxt]
  · by_cases h : k0_cond2 k = 1#1
    · have h' := (cond2_iff k).mp h
      have hi : inRes d L x (k.val + 3) = inFlight d L x (semN cc0_scratch6 (k.val + 3)) ((k.val + 3) % 3) (row L (k.val + 3)) := if_pos h'
      rw [dif_pos h, hi, bigSep_Ico_one h']
      iintro ⟨Hs, Hv, Hx, Hxt⟩
      iapply (wp_in d L x ((k0_off35_eq k).trans (by rw [m3])) ((k0_off36_eq L k).trans (by unfold row; rfl)) (m3 ▸ h3) (row_le L h')
        (semAt_eq cc0_scratch6 (k0_off37_inb k h) ((k0_off37_eq k).trans (by rw [m3])))) $$ [Hs Hx Hv]
      · isplitl [Hx]; · iexact Hx
        isplitl [Hs]; · iexact Hs
        iexact Hv
      iintro Hf
      sl_step
      isplitl [Hf]; · iexact Hf
      rw [show k.val + 3 + 1 = k.val + 1 + 3 by omega]
      iexact Hxt
    · have h' : ¬ k.val + 3 < 8 := fun e => h ((cond2_iff k).mpr e)
      have hi : inRes d L x (k.val + 3) = iprop((∃ f, xslot d L ((k.val + 3) % 3) f) ∗ semVal (V d (coreC L) (coreS L), SemLoc.dma (semN cc0_scratch6 (k.val + 3))) 0) :=
        if_neg h'
      rw [dif_neg h, hi, Finset.Ico_eq_empty (by omega), Finset.Ico_eq_empty (by omega)]
      iintro ⟨Hs, Hv, He⟩
      sl_step
      isplitl [Hs Hv]
      · isplitl [Hs]; · iexact Hs
        iexact Hv
      iexact He
  · rw [m3, semN_add]
    isplitl [Hs]
    · iexists _; iexact Hs
    isplitl [Hvi]; · iexact Hvi
    iexact Hxt
  iintro %_ ⟨Hi3, Hxt⟩
  sl_step
  have hout : outRes d L ta tb tc td x (k.val + 3) = outFlight d L ta tb tc td x (semN cc0_scratch7 k.val) (k.val % 3) (row L k.val) := by
    unfold outRes
    rw [if_neg (by omega), m3, semN_add, show k.val + 3 - 3 = k.val by omega]
  rw [show k.val + 1 + 2 = k.val + 3 by omega, hout, bigSep_range_one]
  isplitr; · iexact Hlv
  isplitl [Ht]; · iexact Ht
  isplitl [Hi1 Hi2 Hi3]
  · isplitl [Hi1]; · iexact Hi1
    isplitl [Hi2]; · iexact Hi2
    iexact Hi3
  isplitl [Ho1 Ho2 Hout]
  · isplitl [Ho1]; · iexact Ho1
    isplitl [Ho2]; · iexact Ho2
    iexact Hout
  isplitl [Hx Hxd]
  · isplitl [Hx]; · iexact Hx
    iexact Hxd
  isplitl [Hxt]; · iexact Hxt
  isplitl [Hod]; · iexact Hod
  isplitl [Hot]; · iexact Hot
  iexact HO

/-- The loop over the eight blocks. -/
theorem wp_blocks {O : CellTallies nD τ sig (HIx 1)} {W : Waits sig (HIx 1)} (hO : ∀ g, O g none = 0)
    (r0 r1 r2 r3 : DmaSems sig S_) (v2 : BitVec 32) :
    state d L ta tb tc td x O W 0
      ⊢ wp frame (wpE (defs₀ (F := F)) 𝒱₀ (V d (coreC L) (coreS L)) none) Set.univ
          (Scf.Loop.for k0_t1_loop k0_t1_ok ⟨⟩ (k0_t1_body L tV (Memref.isWhole_whole _) xV (Memref.isWhole_whole _) oV (Memref.isWhole_whole _)
            aV (Memref.isWhole_whole _) bV (Memref.isWhole_whole _) cV (Memref.isWhole_whole _) dV (Memref.isWhole_whole _) xbV (Memref.isWhole_whole _)
            obV (Memref.isWhole_whole _) cc0_scratch6 cc0_scratch7 r0 r1 r2 r3 v2 lanes c63))
          fun _ => state d L ta tb tc td x O W 8 := by
  refine BI.Entails.trans ?_ (Scf.wp_for frame (wpE (defs₀ (F := F)) 𝒱₀ (V d (coreC L) (coreS L)) none) Set.univ _ _ _ k0_t1_ok _ _
    (fun k _ => state d L ta tb tc td x O W k) (fun k _ => trip d L hO r0 r1 r2 r3 v2 k))
  show state d L ta tb tc td x O W 0 ⊢ iprop(state d L ta tb tc td x O W 0 ∗ ∀ _ : PUnit, state d L ta tb tc td x O W k0_t1_loop.trips -∗ state d L ta tb tc td x O W 8)
  iintro H
  isplitl [H]; · iexact H
  iintro %_ H
  rw [trips_block]
  iexact H

end Cert.Proof.Spline

end
-- ==== Proof.Tables.lean ====
/-
  The copies of the four coefficient tables into a task's table scratches, and a task's program as its copies in, the
  tables' copies, the loop over the blocks, and the last copies out.
-/
module

public import proofs.«01_k».proof.Proof.Blocks

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Row `r` of the coefficient array, as a memref. -/
abbrev tRow (o : Fin 2 → ℕ) (ho : ∀ a, o a + S1x1024.size a ≤ S4x1024.size a) : Memref sig .scVector .hbm S1024 .f32 :=
  (tV.slice (Rect.unit (s := S4x1024) o S1x1024.size ho) (fun _ => rfl)).squeeze S1024 squeezes_S1x1024_S1024

/-- Row `r` of the coefficient array. -/
def trow (t : S4x1024.Idx → F .f32) (r : Fin 4) : S1024.Idx → F .f32 := fun i => t (ix2 r ⟨(i 0).val, (i 0).isLt⟩)

theorem reshape_row (i : S1024.Idx) (h : S1024.numel = S1x1024.numel) :
    Shape.reshapeEquiv h i = ix2 (0 : Fin 1) (⟨(i 0).val, (i 0).isLt⟩ : Fin 1024) := by
  refine Shape.reshapeEquiv_eq_of_rowMajor h ?_
  rw [Shape.rowMajor_val_two, Shape.rowMajor_val_one]
  show 0 * 1024 + (i 0).val = (i 0).val
  omega

theorem read_tRow (t : S4x1024.Idx → F .f32) {o : Fin 2 → ℕ} (r : Fin 4) (ho : ∀ a, o a + S1x1024.size a ≤ S4x1024.size a) (eo : o = ![r.val, 0]) :
    (tRow o ho).view.read (Elt F) t = trow t r := by
  subst eo
  funext i
  refine (View.read_apply _ _).trans ((cast_eq _ _).trans (congrArg t ?_))
  show (Rect.unit (s := S4x1024) ![r.val, 0] S1x1024.size ho).emb (Shape.reshapeEquiv _ i) = _
  rw [reshape_row]
  funext a
  match a with
  | 0 => exact Fin.ext (show r.val + 1 * 0 = r.val by omega)
  | 1 => exact Fin.ext (show 0 + 1 * (i 0).val = (i 0).val by omega)

variable (d : Dev nD) (L : grid0.Coords)

/-- The coefficient array at a read share. -/
def tpart (q : PosShare TreeShare) (t : S4x1024.Idx → F .f32) : sProp 𝕄 := tV.view.loc (V d (coreC L) (coreS L)) ↦{q} t

/-- A table's copy: started, and waited for. -/
def tabCopy (o : Fin 2 → ℕ) (ho : ∀ a, o a + S1x1024.size a ≤ S4x1024.size a) (sm : DmaSem sig) (dst : Memref sig .scVector .vmem S1024 .f32)
    (hd : dst.view.WordExact) : Prog (TpuEff nD τ sig (Elt F) Λ₀ (thrOf L)) PUnit :=
  .op (.enqueueDma (tRow o ho) (.here dst) (.dma sm) ((View.wordExact_bits rfl).reshape _ _) hd ⟨Or.inl rfl, trivial⟩) fun _ =>
  .op (.waitDma2 sm (tRow o ho) dst ((View.wordExact_bits rfl).reshape _ _) hd) .ret

/-- A table's copy leaves the table in its scratch. -/
theorem wp_tab {O : CellTallies nD τ sig (HIx 1)} {W : Waits sig (HIx 1)} (hO : ∀ g, O g none = 0) (q : PosShare TreeShare) (t : S4x1024.Idx → F .f32)
    {o : Fin 2 → ℕ} (ho : ∀ a, o a + S1x1024.size a ≤ S4x1024.size a) (r : Fin 4) (eo : o = ![r.val, 0]) (sm : DmaSem sig)
    (dst : Memref sig .scVector .vmem S1024 .f32) (hd : dst.view.WordExact) (hs : dst.view.set = Finset.univ) (hc : 0 < dst.view.dmaCredit)
    (g : Buf (Elt F) (dst.view.loc (V d (coreC L) (coreS L)))) (hg : ∀ f, dst.view.write (Elt F) f (trow t r) Finset.univ = g) :
    iprop(levels ∗ tpart d L q t ∗ (∃ f, dst.view.loc (V d (coreC L) (coreS L)) ↦{fullShare} f) ∗ semVal (V d (coreC L) (coreS L), SemLoc.dma sm) 0 ∗ owed d L O W)
      ⊢ wp frame (wpE (defs₀ (F := F)) 𝒱₀ (V d (coreC L) (coreS L)) none) Set.univ (tabCopy L o ho sm dst hd)
          fun _ => iprop(tpart d L q t ∗ (dst.view.loc (V d (coreC L) (coreS L)) ↦{fullShare} g) ∗ semVal (V d (coreC L) (coreS L), SemLoc.dma sm) 0 ∗ owed d L O W) := by
  unfold tabCopy tpart
  iintro ⟨#Hlv, Ht, ⟨%f, Hd⟩, Hv, HO⟩
  ihave Hts := (pointsTo_split_subset (q := q) (f := t) (S := Finset.univ) (Finset.subset_univ (tRow o ho).view.set)).1 $$ Ht
  icases Hts with ⟨Hts, Htr⟩
  iapply (Transfers.wp_dmaLocal countersEmb 𝒱₀ (V d (coreC L) (coreS L)) none (q := q) (fs := t) (Sd := Finset.univ) (fd := f) (default : HIx 1) dst.view.dmaCredit rfl hc
    (Finset.subset_univ _)) $$ [Hts Hd Hv]
  · isplitl [Hts]; · iexact Hts
    isplitl [Hd]; · iexact Hd
    iexact Hv
  iintro HF
  iapply (wp_wait d L hO rfl (W := W)) $$ [HF HO]
  · isplitr; · iexact Hlv
    isplitl [HF]; · iexact HF
    iexact HO
  iintro ⟨⟨Hd, Hts⟩, Hv, HO⟩
  sl_step
  isplitl [Hts Htr]
  · iapply (pointsTo_split_subset (q := q) (f := t) (S := Finset.univ) (Finset.subset_univ (tRow o ho).view.set)).2
    isplitl [Hts] <;> iassumption
  isplitl [Hd]
  · rw [read_tRow t r ho eo, hg]
    iexact Hd
  isplitl [Hv]; · iexact Hv
  iexact HO

/-- A task's program. -/
def bodyProg : Prog (TpuEff nD τ sig (Elt F) Λ₀ (thrOf L)) PUnit :=
  .op (.enqueueDma (xRows (k0_off1 L 0#32) (k0_off1_inb L 0)) (.here (xSlot ![0, 0, 0] inb_S3x64x200_S1x64x200_0_0_0)) (.dma (semAt cc0_scratch6 ![0] inb_S3_S1_0))
    (View.wordExact_bits rfl) ((View.wordExact_bits rfl).reshape _ _) ⟨Or.inl rfl, trivial⟩) fun _ =>
  .op (.enqueueDma (xRows (k0_off1 L 64#32) (k0_off1_inb L 1)) (.here (xSlot ![1, 0, 0] inb_S3x64x200_S1x64x200_1_0_0)) (.dma (semAt cc0_scratch6 ![1] inb_S3_S1_1))
    (View.wordExact_bits rfl) ((View.wordExact_bits rfl).reshape _ _) ⟨Or.inl rfl, trivial⟩) fun _ =>
  .op (.enqueueDma (xRows (k0_off1 L 128#32) (k0_off1_inb L 2)) (.here (xSlot ![2, 0, 0] inb_S3x64x200_S1x64x200_2_0_0)) (.dma (semAt cc0_scratch6 ![2] inb_S3_S1_2))
    (View.wordExact_bits rfl) ((View.wordExact_bits rfl).reshape _ _) ⟨Or.inl rfl, trivial⟩) fun _ =>
  tabCopy L ![0, 0] inb_S4x1024_S1x1024_0_0 cc0_scoped0.sem aV (Memref.isWhole_whole _).wordExact >>= fun _ =>
  tabCopy L ![1, 0] inb_S4x1024_S1x1024_1_0 cc0_scoped1.sem bV (Memref.isWhole_whole _).wordExact >>= fun _ =>
  tabCopy L ![2, 0] inb_S4x1024_S1x1024_2_0 cc0_scoped2.sem cV (Memref.isWhole_whole _).wordExact >>= fun _ =>
  tabCopy L ![3, 0] inb_S4x1024_S1x1024_3_0 cc0_scoped3.sem dV (Memref.isWhole_whole _).wordExact >>= fun _ =>
  Scf.Loop.for k0_t1_loop k0_t1_ok ⟨⟩ (k0_t1_body L tV (Memref.isWhole_whole _) xV (Memref.isWhole_whole _) oV (Memref.isWhole_whole _)
    aV (Memref.isWhole_whole _) bV (Memref.isWhole_whole _) cV (Memref.isWhole_whole _) dV (Memref.isWhole_whole _) xbV (Memref.isWhole_whole _)
    obV (Memref.isWhole_whole _) cc0_scratch6 cc0_scratch7 cc0_scoped0 cc0_scoped1 cc0_scoped2 cc0_scoped3
    (Scalar.muli (Scalar.addi (Scalar.muli (BitVec.ofNat 32 (L 1).val) 2#32) (BitVec.ofNat 32 (L 0).val)) 512#32) lanes c63) >>= fun _ =>
  .op (.waitDma2 (semAt cc0_scratch7 ![0] inb_S3_S1_0) (oSlot ![0, 0, 0] inb_S3x64x200_S1x64x200_0_0_0) (oRows (k0_off38 L) (k0_off38_inb L))
    ((View.wordExact_bits rfl).reshape _ _) (View.wordExact_bits rfl)) fun _ =>
  .op (.waitDma2 (semAt cc0_scratch7 ![1] inb_S3_S1_1) (oSlot ![1, 0, 0] inb_S3x64x200_S1x64x200_1_0_0) (oRows (k0_off38 L) (k0_off38_inb L))
    ((View.wordExact_bits rfl).reshape _ _) (View.wordExact_bits rfl)) fun _ =>
  .op (.waitDma2 (semAt cc0_scratch7 ![2] inb_S3_S1_2) (oSlot ![2, 0, 0] inb_S3x64x200_S1x64x200_2_0_0) (oRows (k0_off38 L) (k0_off38_inb L))
    ((View.wordExact_bits rfl).reshape _ _) (View.wordExact_bits rfl)) .ret

set_option maxRecDepth 65536 in
set_option maxHeartbeats 4000000 in
theorem body_eq :
    cc0__spline_body (F := F) L tV (Memref.isWhole_whole _) xV (Memref.isWhole_whole _) oV (Memref.isWhole_whole _) aV (Memref.isWhole_whole _) bV (Memref.isWhole_whole _)
        cV (Memref.isWhole_whole _) dV (Memref.isWhole_whole _) xbV (Memref.isWhole_whole _) obV (Memref.isWhole_whole _) cc0_scratch6 cc0_scratch7
        cc0_scoped0 cc0_scoped1 cc0_scoped2 cc0_scoped3
      = bodyProg L := by
  rw [cc0__spline_body_eq_skeleton]
  unfold cc0__spline_body_skel
  rw [k0_part9_eq_skeleton, k0_part10_eq_skeleton, k0_part11_eq_skeleton]
  unfold k0_part9_skel k0_part10_skel k0_part11_skel bodyProg tabCopy
  simp only [Prog.lift, Prog.bind_op, Prog.bind_ret, Prog.pure_eq_ret, Prog.bind_assoc]

end Cert.Proof.Spline

end
-- ==== Proof.Task.lean ====
/-
  A task from its operands to its operands: its block of the result's rows left at the kernel's values, its scratches and
  semaphores as the launch wants them back.
-/
module

public import proofs.«01_k».proof.Proof.Tables

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
/-- Distinct elements taken out of a separating conjunction one after the other. -/
theorem bigSep_pull {I : Type} [DecidableEq I] (Φ : I → sProp 𝕄) : ∀ (l : List I) (s : Finset I), l.Nodup → (∀ a ∈ l, a ∈ s) →
    bigSep s Φ = l.foldr (fun a P => iprop(Φ a ∗ P)) (bigSep (l.foldl Finset.erase s) Φ)
  | [], _, _, _ => rfl
  | a :: l, s, hn, hs => by
    rw [SparseCore.bigSep_erase' (hs a List.mem_cons_self)]
    show _ = iprop(Φ a ∗ l.foldr _ (bigSep (l.foldl Finset.erase (s.erase a)) Φ))
    rw [bigSep_pull Φ l (s.erase a) (List.nodup_cons.mp hn).2 fun b hb =>
      Finset.mem_erase.mpr ⟨fun e => (List.nodup_cons.mp hn).1 (e ▸ hb), hs b (List.mem_cons_of_mem _ hb)⟩]

variable (d : Dev nD) (L : grid0.Coords)

/-- The semaphores a task uses. -/
def sems : List (DmaSem sig) := [cc0_scoped0.sem, cc0_scoped1.sem, cc0_scoped2.sem, cc0_scoped3.sem,
  semN cc0_scratch6 0, semN cc0_scratch6 1, semN cc0_scratch6 2, semN cc0_scratch7 0, semN cc0_scratch7 1, semN cc0_scratch7 2]

theorem sems_nodup : (sems).Nodup := by decide +kernel
theorem sems_scoped : ∀ s ∈ sems, (SemLoc.dma s : SemLoc sig).isScoped .scVector = true := by decide +kernel

abbrev semCells : List (GSem nD τ sig) := sems.map fun s => (V d (coreC L) (coreS L), SemLoc.dma s)

theorem ownSems0_V : ∃ R : sProp 𝕄, (ownSems0 (V d (coreC L) (coreS L)) : sProp 𝕄) = (semCells d L).foldr (fun g P => iprop(semVal g 0 ∗ P)) R :=
  ⟨_, bigSep_pull _ (semCells d L) _ (sems_nodup.map fun _ _ e => SemLoc.dma.inj (Prod.mk.inj e).2) fun g hg => by
    obtain ⟨s, hs, rfl⟩ := List.mem_map.mp hg
    exact mem_ownCells.mpr ⟨rfl, sems_scoped s hs⟩⟩

/-- The scratch buffers a task uses. -/
def scratches : List (Ref sig .scVector) := [cc0_scratch0, cc0_scratch1, cc0_scratch2, cc0_scratch3, cc0_scratch4, cc0_scratch5]

theorem scratches_nodup : (scratches).Nodup := by decide +kernel

theorem ownBufs_V : ∃ R : sProp 𝕄, (ownBufs (V d (coreC L) (coreS L)) : sProp 𝕄)
    = scratches.foldr (fun b P => iprop((∃ f, (V d (coreC L) (coreS L)).loc b ↦{fullShare} f) ∗ P)) R := by
  refine ⟨_, (bigSep_pull _ (scratches.map fun b => (Proc.scVector (coreC L) (coreS L)).devRef b) _ (scratches_nodup.map (Proc.devRef_injective _)) ?_).trans
    (List.foldr_map ..)⟩
  intro b hb
  obtain ⟨r, hr, rfl⟩ := List.mem_map.mp hb
  refine SparseCore.Cfg.mem_ownRefs_of_owner (p := Proc.scVector (coreC L) (coreS L)) ?_
  fin_cases hr <;> rfl

theorem slots_cover : (Finset.range 3).biUnion slotS = Finset.univ := by
  ext i
  have h : (i 0).val < 3 := (i 0).isLt
  simp [slotS, h]

theorem slots_disjoint : ∀ a ∈ Finset.range 3, ∀ b ∈ Finset.range 3, a ≠ b → Disjoint (slotS a) (slotS b) := fun a _ b _ h =>
  Finset.disjoint_left.mpr fun i ha hb => h ((Finset.mem_filter.mp ha).2.symm.trans (Finset.mem_filter.mp hb).2)

/-- A block buffer as its three slots, and back at some contents. -/
theorem slots_split {ℓ : Loc nD τ sig} (K : ℕ → Finset (Idx ℓ)) (hc : (Finset.range 3).biUnion K = Finset.univ)
    (hd : ∀ a ∈ Finset.range 3, ∀ b ∈ Finset.range 3, a ≠ b → Disjoint (K a) (K b)) :
    (iprop(∃ f, ℓ ↦{fullShare} f) : sProp 𝕄)
      ⊢ iprop((∃ f, ℓ ↦[K 0]{fullShare} f) ∗ (∃ f, ℓ ↦[K 1]{fullShare} f) ∗ ∃ f, ℓ ↦[K 2]{fullShare} f) := by
  iintro ⟨%f, H⟩
  ihave H := (show (ℓ ↦{fullShare} f : sProp 𝕄) ⊢ iprop((ℓ ↦[K 2]{fullShare} f) ∗ (ℓ ↦[K 1]{fullShare} f) ∗ (ℓ ↦[K 0]{fullShare} f) ∗ bigSep (Finset.range 0) fun n => ℓ ↦[K n]{fullShare} f)
    from Entails.of_eq (by rw [← hc, pointsTo_biUnion _ _ hd, bigSep_range_one, bigSep_range_one, bigSep_range_one])) $$ H
  icases H with ⟨H2, H1, H0, -⟩
  isplitl [H0]; · iexists f; iexact H0
  isplitl [H1]; · iexists f; iexact H1
  iexists f; iexact H2

theorem slots_join {ℓ : Loc nD τ sig} (K : ℕ → Finset (Idx ℓ)) (hc : (Finset.range 3).biUnion K = Finset.univ)
    (hd : ∀ a ∈ Finset.range 3, ∀ b ∈ Finset.range 3, a ≠ b → Disjoint (K a) (K b)) :
    iprop((∃ f, ℓ ↦[K 0]{fullShare} f) ∗ (∃ f, ℓ ↦[K 1]{fullShare} f) ∗ ∃ f, ℓ ↦[K 2]{fullShare} f)
      ⊢ (iprop(∃ f, ℓ ↦{fullShare} f) : sProp 𝕄) := by
  iintro ⟨⟨%f0, H0⟩, ⟨%f1, H1⟩, ⟨%f2, H2⟩⟩
  ihave H := (pointsTo_biUnion_join (ℓ := ℓ) (q := fullShare) (Val := Elt F) (Finset.range 3) K (fun n => if n = 0 then f0 else if n = 1 then f1 else f2) f0 hd) $$ [H0 H1 H2]
  · rw [bigSep_range_one, bigSep_range_one, bigSep_range_one]
    isplitl [H2]; · iexact H2
    isplitl [H1]; · iexact H1
    isplitl [H0]; · iexact H0
    rw [Finset.range_zero, bigSep_empty]
    iempintro
  icases H with ⟨%g, -, H⟩
  rw [hc]
  iexists g; iexact H

omit [FloatOps F] in
/-- The first three of eight, and the rest. -/
theorem first_three (Φ : ℕ → sProp 𝕄) : bigSep (Finset.range 8) Φ = iprop(Φ 0 ∗ Φ 1 ∗ Φ 2 ∗ bigSep (Finset.Ico 3 8) Φ) := by
  rw [Finset.range_eq_Ico, bigSep_Ico_one (show 0 < 8 by omega), bigSep_Ico_one (show 0 + 1 < 8 by omega), bigSep_Ico_one (show 0 + 1 + 1 < 8 by omega)]

/-- The loop's state before the first trip. -/
theorem state_zero {ta tb tc td : S1024.Idx → F .f32} {x : S16384x200.Idx → F .f32} {O : CellTallies nD τ sig (HIx 1)} {W : Waits sig (HIx 1)} :
    iprop(levels ∗ tabs d L ta tb tc td
        ∗ (inFlight d L x (semN cc0_scratch6 0) 0 (row L 0) ∗ inFlight d L x (semN cc0_scratch6 1) 1 (row L 1) ∗ inFlight d L x (semN cc0_scratch6 2) 2 (row L 2))
        ∗ (((∃ f, oslot d L 0 f) ∗ semVal (V d (coreC L) (coreS L), SemLoc.dma (semN cc0_scratch7 0)) 0)
          ∗ ((∃ f, oslot d L 1 f) ∗ semVal (V d (coreC L) (coreS L), SemLoc.dma (semN cc0_scratch7 1)) 0)
          ∗ ((∃ f, oslot d L 2 f) ∗ semVal (V d (coreC L) (coreS L), SemLoc.dma (semN cc0_scratch7 2)) 0))
        ∗ (bigSep (Finset.Ico 3 8) fun b => xpart d L x (row L b))
        ∗ (bigSep (Finset.range 8) fun b => iprop(∃ f, opart d L f (row L b)))
        ∗ owed d L O W)
      ⊢ state d L ta tb tc td x O W 0 := by
  unfold state done
  rw [show inRes d L x 0 = inFlight d L x (semN cc0_scratch6 0) 0 (row L 0) from if_pos (by decide),
    show inRes d L x (0 + 1) = inFlight d L x (semN cc0_scratch6 1) 1 (row L 1) from if_pos (by decide),
    show inRes d L x (0 + 2) = inFlight d L x (semN cc0_scratch6 2) 2 (row L 2) from if_pos (by decide),
    show outRes d L ta tb tc td x 0 = iprop((∃ f, oslot d L 0 f) ∗ semVal (V d (coreC L) (coreS L), SemLoc.dma (semN cc0_scratch7 0)) 0) from if_pos (by decide),
    show outRes d L ta tb tc td x (0 + 1) = iprop((∃ f, oslot d L 1 f) ∗ semVal (V d (coreC L) (coreS L), SemLoc.dma (semN cc0_scratch7 1)) 0) from if_pos (by decide),
    show outRes d L ta tb tc td x (0 + 2) = iprop((∃ f, oslot d L 2 f) ∗ semVal (V d (coreC L) (coreS L), SemLoc.dma (semN cc0_scratch7 2)) 0) from if_pos (by decide),
    show 0 + 3 = 3 from rfl, show 0 - 3 = 0 from rfl, Finset.range_zero, bigSep_empty, bigSep_empty, ← Finset.range_eq_Ico]
  iintro ⟨Hlv, Ht, ⟨Hi0, Hi1, Hi2⟩, ⟨Ho0, Ho1, Ho2⟩, Hx, Ho, HO⟩
  isplitl [Hlv]; · iexact Hlv
  isplitl [Ht]; · iexact Ht
  isplitl [Hi0 Hi1 Hi2]
  · isplitl [Hi0]; · iexact Hi0
    isplitl [Hi1]; · iexact Hi1
    iexact Hi2
  isplitl [Ho0 Ho1 Ho2]
  · isplitl [Ho0]; · iexact Ho0
    isplitl [Ho1]; · iexact Ho1
    iexact Ho2
  isplitr; · iempintro
  isplitl [Hx]; · iexact Hx
  isplitr; · iempintro
  isplitl [Ho]; · iexact Ho
  iexact HO

/-- The loop's state after the last trip. -/
theorem state_eight {ta tb tc td : S1024.Idx → F .f32} {x : S16384x200.Idx → F .f32} {O : CellTallies nD τ sig (HIx 1)} {W : Waits sig (HIx 1)} :
    state d L ta tb tc td x O W 8 ⊢
      iprop(tabs d L ta tb tc td
        ∗ (((∃ f, xslot d L 2 f) ∗ semVal (V d (coreC L) (coreS L), SemLoc.dma (semN cc0_scratch6 2)) 0)
          ∗ ((∃ f, xslot d L 0 f) ∗ semVal (V d (coreC L) (coreS L), SemLoc.dma (semN cc0_scratch6 0)) 0)
          ∗ ((∃ f, xslot d L 1 f) ∗ semVal (V d (coreC L) (coreS L), SemLoc.dma (semN cc0_scratch6 1)) 0))
        ∗ (outFlight d L ta tb tc td x (semN cc0_scratch7 2) 2 (row L 5) ∗ outFlight d L ta tb tc td x (semN cc0_scratch7 0) 0 (row L 6)
          ∗ outFlight d L ta tb tc td x (semN cc0_scratch7 1) 1 (row L 7))
        ∗ (bigSep (Finset.range 8) fun b => xpart d L x (row L b))
        ∗ (bigSep (Finset.range 5) fun b => opart d L (target ta tb tc td x) (row L b))
        ∗ owed d L O W) := by
  unfold state done
  rw [show inRes d L x 8 = iprop((∃ f, xslot d L 2 f) ∗ semVal (V d (coreC L) (coreS L), SemLoc.dma (semN cc0_scratch6 2)) 0) from if_neg (by decide),
    show inRes d L x (8 + 1) = iprop((∃ f, xslot d L 0 f) ∗ semVal (V d (coreC L) (coreS L), SemLoc.dma (semN cc0_scratch6 0)) 0) from if_neg (by decide),
    show inRes d L x (8 + 2) = iprop((∃ f, xslot d L 1 f) ∗ semVal (V d (coreC L) (coreS L), SemLoc.dma (semN cc0_scratch6 1)) 0) from if_neg (by decide),
    show outRes d L ta tb tc td x 8 = outFlight d L ta tb tc td x (semN cc0_scratch7 2) 2 (row L 5) from if_neg (by decide),
    show outRes d L ta tb tc td x (8 + 1) = outFlight d L ta tb tc td x (semN cc0_scratch7 0) 0 (row L 6) from if_neg (by decide),
    show outRes d L ta tb tc td x (8 + 2) = outFlight d L ta tb tc td x (semN cc0_scratch7 1) 1 (row L 7) from if_neg (by decide)]
  iintro ⟨-, Ht, ⟨Hi0, Hi1, Hi2⟩, ⟨Ho0, Ho1, Ho2⟩, Hx, -, Hd, -, HO⟩
  isplitl [Ht]; · iexact Ht
  isplitl [Hi0 Hi1 Hi2]
  · isplitl [Hi0]; · iexact Hi0
    isplitl [Hi1]; · iexact Hi1
    iexact Hi2
  isplitl [Ho0 Ho1 Ho2]
  · isplitl [Ho0]; · iexact Ho0
    isplitl [Ho1]; · iexact Ho1
    iexact Ho2
  isplitl [Hx]; · iexact Hx
  isplitl [Hd]; · iexact Hd
  iexact HO

/-- The last three blocks of the result's rows join the first five. -/
theorem done_all {g : S16384x200.Idx → F .f32} :
    iprop(opart d L g (row L 7) ∗ opart d L g (row L 6) ∗ opart d L g (row L 5) ∗ bigSep (Finset.range 5) fun b => opart d L g (row L b))
      ⊢ (bigSep (Finset.range 8) fun b => opart d L g (row L b) : sProp 𝕄) := by
  rw [bigSep_range_one 7, bigSep_range_one 6, bigSep_range_one 5]

/-- What a task is handed: a read share of the coefficient array, its eight blocks of `x`'s rows, its eight blocks of
    the result's rows at some contents. -/
def goTile (q : PosShare TreeShare) (t : S4x1024.Idx → F .f32) (x : S16384x200.Idx → F .f32) : sProp 𝕄 :=
  iprop(tpart d L q t ∗ (bigSep (Finset.range 8) fun b => xpart d L x (row L b)) ∗ bigSep (Finset.range 8) fun b => iprop(∃ f, opart d L f (row L b)))

/-- What the kernel writes, from the coefficient array. -/
def result (t : S4x1024.Idx → F .f32) (x : S16384x200.Idx → F .f32) : S16384x200.Idx → F .f32 := target (trow t 0) (trow t 1) (trow t 2) (trow t 3) x

/-- What a task hands back: the same, its blocks of the result's rows at the kernel's values. -/
def tdTile (q : PosShare TreeShare) (t : S4x1024.Idx → F .f32) (x : S16384x200.Idx → F .f32) : sProp 𝕄 :=
  iprop(tpart d L q t ∗ (bigSep (Finset.range 8) fun b => xpart d L x (row L b)) ∗ bigSep (Finset.range 8) fun b => opart d L (result t x) (row L b))

set_option maxHeartbeats 4000000 in
theorem tile_body (hF : (K (F := F)).Facts) (q : PosShare TreeShare) (t : S4x1024.Idx → F .f32) (x : S16384x200.Idx → F .f32)
    (O : CellTallies nD τ sig (HIx 1)) (W : Waits sig (HIx 1)) (hO : ∀ g, O g none = 0) :
    iprop(levAts (K (F := F)).L (K (F := F)).lev ∗ emp ∗ goTile d L q t x
        ∗ scopedBufs (V d (coreC L) (coreS L)) ∗ scopedSems0 (V d (coreC L) (coreS L)) ∗ owes (V d (coreC L) (coreS L)) O W)
      ⊢ wp frame (wpE (defs₀ (F := F)) 𝒱₀ (V d (coreC L) (coreS L)) none) Set.univ
          (cc0__spline_body L tV (Memref.isWhole_whole _) xV (Memref.isWhole_whole _) oV (Memref.isWhole_whole _) aV (Memref.isWhole_whole _) bV (Memref.isWhole_whole _)
            cV (Memref.isWhole_whole _) dV (Memref.isWhole_whole _) xbV (Memref.isWhole_whole _) obV (Memref.isWhole_whole _) cc0_scratch6 cc0_scratch7
            cc0_scoped0 cc0_scoped1 cc0_scoped2 cc0_scoped3)
          fun _ => iprop(tdTile d L q t x ∗ scopedBufs (V d (coreC L) (coreS L)) ∗ scopedSems0 (V d (coreC L) (coreS L))
            ∗ ∃ W', ⌜∀ p ∈ W', p ∈ W ∨ p.2 = none⌝ ∗ owes (V d (coreC L) (coreS L)) O W') := by
  obtain ⟨RS, hRS⟩ := ownSems0_V (F := F) d L
  obtain ⟨RB, hRB⟩ := ownBufs_V (F := F) d L
  rw [body_eq, (K (F := F)).scopedBufs_V hF d (coreC L) (coreS L), SparseCore.Cfg.scopedSems0_V (Val := Elt F) d (coreC L) (coreS L), hRS, hRB]
  unfold bodyProg goTile tdTile
  simp only [semCells, sems, scratches, List.map_cons, List.map_nil, List.foldr_cons, List.foldr_nil]
  iintro ⟨#Hlv, -, ⟨Ht, Hxs, Hos⟩, ⟨Ha, Hb, Hc, Hd, Hxb, Hob, HRB⟩, ⟨Hv0, Hv1, Hv2, Hv3, Hi0, Hi1, Hi2, Ho0, Ho1, Ho2, HRS⟩, HO⟩
  ihave Hxb := (slots_split (F := F) (ℓ := (V d (coreC L) (coreS L)).loc cc0_scratch4) slotS slots_cover slots_disjoint) $$ Hxb
  icases Hxb with ⟨Hxb0, Hxb1, Hxb2⟩
  ihave Hob := (slots_split (F := F) (ℓ := (V d (coreC L) (coreS L)).loc cc0_scratch5) slotS slots_cover slots_disjoint) $$ Hob
  icases Hob with ⟨Hob0, Hob1, Hob2⟩
  ihave HO := (show owes (V d (coreC L) (coreS L)) O W ⊢ (owed d L O W : sProp 𝕄) from by
    unfold owed; iintro H; iexists W; isplitr; · ipureintro; exact fun p hp => .inl hp
    iexact H) $$ HO
  ihave Hxs := (Entails.of_eq (first_three (fun b => xpart d L x (row L b)))) $$ Hxs
  icases Hxs with ⟨Hx0, Hx1, Hx2, Hxs⟩
  -- the first three blocks' copies in start
  iapply (wp_in d L x (n := 0) rfl (k0_off1_eq L 0) (by decide) (row_le L (b := 0) (by decide)) (semAt_eq cc0_scratch6 inb_S3_S1_0 (b := 0) rfl)) $$ [Hx0 Hxb0 Hi0]
  · isplitl [Hx0]; · iexact Hx0
    isplitl [Hxb0]; · iexact Hxb0
    iexact Hi0
  iintro Hi0
  iapply (wp_in d L x (n := 1) rfl (k0_off1_eq L 1) (by decide) (row_le L (b := 1) (by decide)) (semAt_eq cc0_scratch6 inb_S3_S1_1 (b := 1) rfl)) $$ [Hx1 Hxb1 Hi1]
  · isplitl [Hx1]; · iexact Hx1
    isplitl [Hxb1]; · iexact Hxb1
    iexact Hi1
  iintro Hi1
  iapply (wp_in d L x (n := 2) rfl (k0_off1_eq L 2) (by decide) (row_le L (b := 2) (by decide)) (semAt_eq cc0_scratch6 inb_S3_S1_2 (b := 2) rfl)) $$ [Hx2 Hxb2 Hi2]
  · isplitl [Hx2]; · iexact Hx2
    isplitl [Hxb2]; · iexact Hxb2
    iexact Hi2
  iintro Hi2
  -- the tables
  iapply (wp_cut d L _ (wp_tab d L hO q t inb_S4x1024_S1x1024_0_0 0 rfl cc0_scoped0.sem aV (Memref.isWhole_whole _).wordExact (View.set_whole _) (by decide)
    (trow t 0) (fun f => View.write_whole_univ _ _ _) (W := W))) $$ [Ht Ha Hv0 HO]
  · isplitr; · iexact Hlv
    isplitl [Ht]; · iexact Ht
    isplitl [Ha]; · iexact Ha
    isplitl [Hv0]; · iexact Hv0
    iexact HO
  iintro %_ ⟨Ht, Ha, Hv0, HO⟩
  iapply (wp_cut d L _ (wp_tab d L hO q t inb_S4x1024_S1x1024_1_0 1 rfl cc0_scoped1.sem bV (Memref.isWhole_whole _).wordExact (View.set_whole _) (by decide)
    (trow t 1) (fun f => View.write_whole_univ _ _ _) (W := W))) $$ [Ht Hb Hv1 HO]
  · isplitr; · iexact Hlv
    isplitl [Ht]; · iexact Ht
    isplitl [Hb]; · iexact Hb
    isplitl [Hv1]; · iexact Hv1
    iexact HO
  iintro %_ ⟨Ht, Hb, Hv1, HO⟩
  iapply (wp_cut d L _ (wp_tab d L hO q t inb_S4x1024_S1x1024_2_0 2 rfl cc0_scoped2.sem cV (Memref.isWhole_whole _).wordExact (View.set_whole _) (by decide)
    (trow t 2) (fun f => View.write_whole_univ _ _ _) (W := W))) $$ [Ht Hc Hv2 HO]
  · isplitr; · iexact Hlv
    isplitl [Ht]; · iexact Ht
    isplitl [Hc]; · iexact Hc
    isplitl [Hv2]; · iexact Hv2
    iexact HO
  iintro %_ ⟨Ht, Hc, Hv2, HO⟩
  iapply (wp_cut d L _ (wp_tab d L hO q t inb_S4x1024_S1x1024_3_0 3 rfl cc0_scoped3.sem dV (Memref.isWhole_whole _).wordExact (View.set_whole _) (by decide)
    (trow t 3) (fun f => View.write_whole_univ _ _ _) (W := W))) $$ [Ht Hd Hv3 HO]
  · isplitr; · iexact Hlv
    isplitl [Ht]; · iexact Ht
    isplitl [Hd]; · iexact Hd
    isplitl [Hv3]; · iexact Hv3
    iexact HO
  iintro %_ ⟨Ht, Hd, Hv3, HO⟩
  -- the loop
  iapply (wp_cut d L _ (wp_blocks d L (ta := trow t 0) (tb := trow t 1) (tc := trow t 2) (td := trow t 3) (x := x) (W := W) hO _ _ _ _ _))
    $$ [Ha Hb Hc Hd Hi0 Hi1 Hi2 Hxs Hos Hob0 Hob1 Hob2 Ho0 Ho1 Ho2 HO]
  · iapply (state_zero d L)
    isplitr; · iexact Hlv
    isplitl [Ha Hb Hc Hd]
    · unfold tabs
      isplitl [Ha]; · iexact Ha
      isplitl [Hb]; · iexact Hb
      isplitl [Hc]; · iexact Hc
      iexact Hd
    isplitl [Hi0 Hi1 Hi2]
    · isplitl [Hi0]; · iexact Hi0
      isplitl [Hi1]; · iexact Hi1
      iexact Hi2
    isplitl [Hob0 Hob1 Hob2 Ho0 Ho1 Ho2]
    · isplitl [Hob0 Ho0]
      · isplitl [Hob0]; · iexact Hob0
        iexact Ho0
      isplitl [Hob1 Ho1]
      · isplitl [Hob1]; · iexact Hob1
        iexact Ho1
      isplitl [Hob2]; · iexact Hob2
      iexact Ho2
    isplitl [Hxs]; · iexact Hxs
    isplitl [Hos]; · iexact Hos
    iexact HO
  iintro %_ Hst
  ihave Hst := (state_eight d L) $$ Hst
  icases Hst with ⟨Htabs, ⟨⟨Hxb2, Hi2⟩, ⟨Hxb0, Hi0⟩, ⟨Hxb1, Hi1⟩⟩, ⟨Ho2, Ho0, Ho1⟩, Hxs, Hod, HO⟩
  -- the last three blocks' copies out land
  iapply (wp_wait d L hO (semAt_eq cc0_scratch7 inb_S3_S1_0 (b := 0) rfl)
    (D := iprop(opart d L (result t x) (row L 6) ∗ ∃ f, oslot d L 0 f)) (W := W)) $$ [Ho0 HO]
  · isplitr; · iexact Hlv
    isplitl [Ho0]; · unfold outFlight; iexact Ho0
    iexact HO
  iintro ⟨⟨Hp6, Hob0⟩, Ho0, HO⟩
  iapply (wp_wait d L hO (semAt_eq cc0_scratch7 inb_S3_S1_1 (b := 1) rfl)
    (D := iprop(opart d L (result t x) (row L 7) ∗ ∃ f, oslot d L 1 f)) (W := W)) $$ [Ho1 HO]
  · isplitr; · iexact Hlv
    isplitl [Ho1]; · unfold outFlight; iexact Ho1
    iexact HO
  iintro ⟨⟨Hp7, Hob1⟩, Ho1, HO⟩
  iapply (wp_wait d L hO (semAt_eq cc0_scratch7 inb_S3_S1_2 (b := 2) rfl)
    (D := iprop(opart d L (result t x) (row L 5) ∗ ∃ f, oslot d L 2 f)) (W := W)) $$ [Ho2 HO]
  · isplitr; · iexact Hlv
    isplitl [Ho2]; · unfold outFlight; iexact Ho2
    iexact HO
  iintro ⟨⟨Hp5, Hob2⟩, Ho2, HO⟩
  sl_step
  ihave Hxb := (slots_join (F := F) (ℓ := (V d (coreC L) (coreS L)).loc cc0_scratch4) slotS slots_cover slots_disjoint) $$ [Hxb0 Hxb1 Hxb2]
  · isplitl [Hxb0]; · iexact Hxb0
    isplitl [Hxb1]; · iexact Hxb1
    iexact Hxb2
  ihave Hob := (slots_join (F := F) (ℓ := (V d (coreC L) (coreS L)).loc cc0_scratch5) slotS slots_cover slots_disjoint) $$ [Hob0 Hob1 Hob2]
  · isplitl [Hob0]; · iexact Hob0
    isplitl [Hob1]; · iexact Hob1
    iexact Hob2
  unfold tabs
  icases Htabs with ⟨Ha, Hb, Hc, Hd⟩
  isplitl [Ht Hxs Hod Hp5 Hp6 Hp7]
  · isplitl [Ht]; · iexact Ht
    isplitl [Hxs]; · iexact Hxs
    iapply (done_all d L)
    isplitl [Hp7]; · iexact Hp7
    isplitl [Hp6]; · iexact Hp6
    isplitl [Hp5]; · iexact Hp5
    iexact Hod
  isplitl [Ha Hb Hc Hd Hxb Hob HRB]
  · isplitl [Ha]; · iexists _; iexact Ha
    isplitl [Hb]; · iexists _; iexact Hb
    isplitl [Hc]; · iexists _; iexact Hc
    isplitl [Hd]; · iexists _; iexact Hd
    isplitl [Hxb]; · iexact Hxb
    isplitl [Hob]; · iexact Hob
    iexact HRB
  isplitl [Hv0 Hv1 Hv2 Hv3 Hi0 Hi1 Hi2 Ho0 Ho1 Ho2 HRS]
  · isplitl [Hv0]; · iexact Hv0
    isplitl [Hv1]; · iexact Hv1
    isplitl [Hv2]; · iexact Hv2
    isplitl [Hv3]; · iexact Hv3
    isplitl [Hi0]; · iexact Hi0
    isplitl [Hi1]; · iexact Hi1
    isplitl [Hi2]; · iexact Hi2
    isplitl [Ho0]; · iexact Ho0
    isplitl [Ho1]; · iexact Ho1
    isplitl [Ho2]; · iexact Ho2
    iexact HRS
  unfold owed
  iexact HO

end Cert.Proof.Spline

end
-- ==== Proof.Host.lean ====
/-
  The operations before the call: the line that lays the spline's coefficients out for the kernel, and what it leaves
  alone.
-/
module

public import proofs.«01_k».proof.Proof.Task
public import Idealize.ShloMosaic.Lib.Pipeline.Frame

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (seq seqK after)

/-- The operations `main` runs before the call, in order. -/
def hostOps : List (HloOp τ sig (Elt F)) := [
  StableHlo.unary main_arg1 main_v0 ((extractStridedSlice S1 ![0] · slices_S64_S1_0) : (⟨S64, .f32⟩ : BufTy).Contents (Elt F) → (⟨S1, .f32⟩ : BufTy).Contents (Elt F)),
  StableHlo.unary main_arg1 main_v1 ((extractStridedSlice S63 ![0] · slices_S64_S63_0) : (⟨S64, .f32⟩ : BufTy).Contents (Elt F) → (⟨S63, .f32⟩ : BufTy).Contents (Elt F)),
  StableHlo.binary main_v0 main_v1 main_v2 ((fun a b => concatenate S64 0 [⟨S1, a⟩, ⟨S63, b⟩] concatenates_S1_S63_S64_d0) : (⟨S1, .f32⟩ : BufTy).Contents (Elt F) → (⟨S63, .f32⟩ : BufTy).Contents (Elt F) → (⟨S64, .f32⟩ : BufTy).Contents (Elt F)),
  StableHlo.unary main_arg1 main_v3 ((extractStridedSlice S63 ![1] · slices_S64_S63_1) : (⟨S64, .f32⟩ : BufTy).Contents (Elt F) → (⟨S63, .f32⟩ : BufTy).Contents (Elt F)),
  StableHlo.unary main_arg1 main_v4 ((extractStridedSlice S1 ![63] · slices_S64_S1_63) : (⟨S64, .f32⟩ : BufTy).Contents (Elt F) → (⟨S1, .f32⟩ : BufTy).Contents (Elt F)),
  StableHlo.binary main_v3 main_v4 main_v5 ((fun a b => concatenate S64 0 [⟨S63, a⟩, ⟨S1, b⟩] concatenates_S63_S1_S64_d0) : (⟨S63, .f32⟩ : BufTy).Contents (Elt F) → (⟨S1, .f32⟩ : BufTy).Contents (Elt F) → (⟨S64, .f32⟩ : BufTy).Contents (Elt F)),
  StableHlo.unary main_arg1 main_v6 ((extractStridedSlice S62 ![2] · slices_S64_S62_2) : (⟨S64, .f32⟩ : BufTy).Contents (Elt F) → (⟨S62, .f32⟩ : BufTy).Contents (Elt F)),
  StableHlo.unary main_arg1 main_v7 ((extractStridedSlice S1 ![63] · slices_S64_S1_63) : (⟨S64, .f32⟩ : BufTy).Contents (Elt F) → (⟨S1, .f32⟩ : BufTy).Contents (Elt F)),
  StableHlo.unary main_arg1 main_v8 ((extractStridedSlice S1 ![63] · slices_S64_S1_63) : (⟨S64, .f32⟩ : BufTy).Contents (Elt F) → (⟨S1, .f32⟩ : BufTy).Contents (Elt F)),
  StableHlo.nary ![main_v6, main_v7, main_v8] main_v9 (fun u => (concatenate S64 0 [⟨S62, (u 0 : (⟨S62, .f32⟩ : BufTy).Contents (Elt F))⟩, ⟨S1, (u 1 : (⟨S1, .f32⟩ : BufTy).Contents (Elt F))⟩, ⟨S1, (u 2 : (⟨S1, .f32⟩ : BufTy).Contents (Elt F))⟩] concatenates_S62_S1_S1_S64_d0 : (⟨S64, .f32⟩ : BufTy).Contents (Elt F))),
  StableHlo.binary main_v5 main_v2 main_v10 (subf : (⟨S64, .f32⟩ : BufTy).Contents (Elt F) → (⟨S64, .f32⟩ : BufTy).Contents (Elt F) → (⟨S64, .f32⟩ : BufTy).Contents (Elt F)),
  StableHlo.nullary main_cst (constant S_ .f32 0x3F000000#32),
  StableHlo.unary main_cst main_v11 (broadcastInDim S64 ![] bcast_S_S64 : (⟨S_, .f32⟩ : BufTy).Contents (Elt F) → (⟨S64, .f32⟩ : BufTy).Contents (Elt F)),
  StableHlo.binary main_v11 main_v10 main_v12 (mulf : (⟨S64, .f32⟩ : BufTy).Contents (Elt F) → (⟨S64, .f32⟩ : BufTy).Contents (Elt F) → (⟨S64, .f32⟩ : BufTy).Contents (Elt F)),
  StableHlo.nullary main_cst_0 (constant S_ .f32 0x40000000#32),
  StableHlo.unary main_cst_0 main_v13 (broadcastInDim S64 ![] bcast_S_S64 : (⟨S_, .f32⟩ : BufTy).Contents (Elt F) → (⟨S64, .f32⟩ : BufTy).Contents (Elt F)),
  StableHlo.binary main_v13 main_v2 main_v14 (mulf : (⟨S64, .f32⟩ : BufTy).Contents (Elt F) → (⟨S64, .f32⟩ : BufTy).Contents (Elt F) → (⟨S64, .f32⟩ : BufTy).Contents (Elt F)),
  StableHlo.nullary main_cst_1 (constant S_ .f32 0x40A00000#32),
  StableHlo.unary main_cst_1 main_v15 (broadcastInDim S64 ![] bcast_S_S64 : (⟨S_, .f32⟩ : BufTy).Contents (Elt F) → (⟨S64, .f32⟩ : BufTy).Contents (Elt F)),
  StableHlo.binary main_v15 main_arg1 main_v16 (mulf : (⟨S64, .f32⟩ : BufTy).Contents (Elt F) → (⟨S64, .f32⟩ : BufTy).Contents (Elt F) → (⟨S64, .f32⟩ : BufTy).Contents (Elt F)),
  StableHlo.binary main_v14 main_v16 main_v17 (subf : (⟨S64, .f32⟩ : BufTy).Contents (Elt F) → (⟨S64, .f32⟩ : BufTy).Contents (Elt F) → (⟨S64, .f32⟩ : BufTy).Contents (Elt F)),
  StableHlo.nullary main_cst_2 (constant S_ .f32 0x40800000#32),
  StableHlo.unary main_cst_2 main_v18 (broadcastInDim S64 ![] bcast_S_S64 : (⟨S_, .f32⟩ : BufTy).Contents (Elt F) → (⟨S64, .f32⟩ : BufTy).Contents (Elt F)),
  StableHlo.binary main_v18 main_v5 main_v19 (mulf : (⟨S64, .f32⟩ : BufTy).Contents (Elt F) → (⟨S64, .f32⟩ : BufTy).Contents (Elt F) → (⟨S64, .f32⟩ : BufTy).Contents (Elt F)),
  StableHlo.binary main_v17 main_v19 main_v20 (addf : (⟨S64, .f32⟩ : BufTy).Contents (Elt F) → (⟨S64, .f32⟩ : BufTy).Contents (Elt F) → (⟨S64, .f32⟩ : BufTy).Contents (Elt F)),
  StableHlo.binary main_v20 main_v9 main_v21 (subf : (⟨S64, .f32⟩ : BufTy).Contents (Elt F) → (⟨S64, .f32⟩ : BufTy).Contents (Elt F) → (⟨S64, .f32⟩ : BufTy).Contents (Elt F)),
  StableHlo.nullary main_cst_3 (constant S_ .f32 0x3F000000#32),
  StableHlo.unary main_cst_3 main_v22 (broadcastInDim S64 ![] bcast_S_S64 : (⟨S_, .f32⟩ : BufTy).Contents (Elt F) → (⟨S64, .f32⟩ : BufTy).Contents (Elt F)),
  StableHlo.binary main_v22 main_v21 main_v23 (mulf : (⟨S64, .f32⟩ : BufTy).Contents (Elt F) → (⟨S64, .f32⟩ : BufTy).Contents (Elt F) → (⟨S64, .f32⟩ : BufTy).Contents (Elt F)),
  StableHlo.unary main_v2 main_v24 (Host.negf : (⟨S64, .f32⟩ : BufTy).Contents (Elt F) → (⟨S64, .f32⟩ : BufTy).Contents (Elt F)),
  StableHlo.nullary main_cst_4 (constant S_ .f32 0x40400000#32),
  StableHlo.unary main_cst_4 main_v25 (broadcastInDim S64 ![] bcast_S_S64 : (⟨S_, .f32⟩ : BufTy).Contents (Elt F) → (⟨S64, .f32⟩ : BufTy).Contents (Elt F)),
  StableHlo.binary main_v25 main_arg1 main_v26 (mulf : (⟨S64, .f32⟩ : BufTy).Contents (Elt F) → (⟨S64, .f32⟩ : BufTy).Contents (Elt F) → (⟨S64, .f32⟩ : BufTy).Contents (Elt F)),
  StableHlo.binary main_v24 main_v26 main_v27 (addf : (⟨S64, .f32⟩ : BufTy).Contents (Elt F) → (⟨S64, .f32⟩ : BufTy).Contents (Elt F) → (⟨S64, .f32⟩ : BufTy).Contents (Elt F)),
  StableHlo.nullary main_cst_5 (constant S_ .f32 0x40400000#32),
  StableHlo.unary main_cst_5 main_v28 (broadcastInDim S64 ![] bcast_S_S64 : (⟨S_, .f32⟩ : BufTy).Contents (Elt F) → (⟨S64, .f32⟩ : BufTy).Contents (Elt F)),
  StableHlo.binary main_v28 main_v5 main_v29 (mulf : (⟨S64, .f32⟩ : BufTy).Contents (Elt F) → (⟨S64, .f32⟩ : BufTy).Contents (Elt F) → (⟨S64, .f32⟩ : BufTy).Contents (Elt F)),
  StableHlo.binary main_v27 main_v29 main_v30 (subf : (⟨S64, .f32⟩ : BufTy).Contents (Elt F) → (⟨S64, .f32⟩ : BufTy).Contents (Elt F) → (⟨S64, .f32⟩ : BufTy).Contents (Elt F)),
  StableHlo.binary main_v30 main_v9 main_v31 (addf : (⟨S64, .f32⟩ : BufTy).Contents (Elt F) → (⟨S64, .f32⟩ : BufTy).Contents (Elt F) → (⟨S64, .f32⟩ : BufTy).Contents (Elt F)),
  StableHlo.nullary main_cst_6 (constant S_ .f32 0x3F000000#32),
  StableHlo.unary main_cst_6 main_v32 (broadcastInDim S64 ![] bcast_S_S64 : (⟨S_, .f32⟩ : BufTy).Contents (Elt F) → (⟨S64, .f32⟩ : BufTy).Contents (Elt F)),
  StableHlo.binary main_v32 main_v31 main_v33 (mulf : (⟨S64, .f32⟩ : BufTy).Contents (Elt F) → (⟨S64, .f32⟩ : BufTy).Contents (Elt F) → (⟨S64, .f32⟩ : BufTy).Contents (Elt F)),
  StableHlo.unary main_arg1 main_v34 (broadcastInDim S64x16 ![0] bcast_S64_S64x16_0 : (⟨S64, .f32⟩ : BufTy).Contents (Elt F) → (⟨S64x16, .f32⟩ : BufTy).Contents (Elt F)),
  StableHlo.reshape main_v34 main_v35 (rfl : (.f32 : EltTy) = .f32) shapeCasts_S64x16_S1024,
  StableHlo.unary main_v12 main_v36 (broadcastInDim S64x16 ![0] bcast_S64_S64x16_0 : (⟨S64, .f32⟩ : BufTy).Contents (Elt F) → (⟨S64x16, .f32⟩ : BufTy).Contents (Elt F)),
  StableHlo.reshape main_v36 main_v37 (rfl : (.f32 : EltTy) = .f32) shapeCasts_S64x16_S1024,
  StableHlo.unary main_v23 main_v38 (broadcastInDim S64x16 ![0] bcast_S64_S64x16_0 : (⟨S64, .f32⟩ : BufTy).Contents (Elt F) → (⟨S64x16, .f32⟩ : BufTy).Contents (Elt F)),
  StableHlo.reshape main_v38 main_v39 (rfl : (.f32 : EltTy) = .f32) shapeCasts_S64x16_S1024,
  StableHlo.unary main_v33 main_v40 (broadcastInDim S64x16 ![0] bcast_S64_S64x16_0 : (⟨S64, .f32⟩ : BufTy).Contents (Elt F) → (⟨S64x16, .f32⟩ : BufTy).Contents (Elt F)),
  StableHlo.reshape main_v40 main_v41 (rfl : (.f32 : EltTy) = .f32) shapeCasts_S64x16_S1024,
  StableHlo.unary main_v35 main_v42 (broadcastInDim S1x1024 ![1] bcast_S1024_S1x1024_1 : (⟨S1024, .f32⟩ : BufTy).Contents (Elt F) → (⟨S1x1024, .f32⟩ : BufTy).Contents (Elt F)),
  StableHlo.unary main_v37 main_v43 (broadcastInDim S1x1024 ![1] bcast_S1024_S1x1024_1 : (⟨S1024, .f32⟩ : BufTy).Contents (Elt F) → (⟨S1x1024, .f32⟩ : BufTy).Contents (Elt F)),
  StableHlo.unary main_v39 main_v44 (broadcastInDim S1x1024 ![1] bcast_S1024_S1x1024_1 : (⟨S1024, .f32⟩ : BufTy).Contents (Elt F) → (⟨S1x1024, .f32⟩ : BufTy).Contents (Elt F)),
  StableHlo.unary main_v41 main_v45 (broadcastInDim S1x1024 ![1] bcast_S1024_S1x1024_1 : (⟨S1024, .f32⟩ : BufTy).Contents (Elt F) → (⟨S1x1024, .f32⟩ : BufTy).Contents (Elt F)),
  StableHlo.nary ![main_v42, main_v43, main_v44, main_v45] main_v46 (fun u => (concatenate S4x1024 0 [⟨S1x1024, (u 0 : (⟨S1x1024, .f32⟩ : BufTy).Contents (Elt F))⟩, ⟨S1x1024, (u 1 : (⟨S1x1024, .f32⟩ : BufTy).Contents (Elt F))⟩, ⟨S1x1024, (u 2 : (⟨S1x1024, .f32⟩ : BufTy).Contents (Elt F))⟩, ⟨S1x1024, (u 3 : (⟨S1x1024, .f32⟩ : BufTy).Contents (Elt F))⟩] concatenates_S1x1024_S1x1024_S1x1024_S1x1024_S4x1024_d0 : (⟨S4x1024, .f32⟩ : BufTy).Contents (Elt F)))]

/-- `main` is those operations, then the call. -/
theorem main_eq (d : Dev nD) : main (F := F) d = seq (hostOps (F := F)) >>= fun _ => ((sc (F := F)).run d 0 >>= fun _ => pure ⟨⟩) := by
  rw [StableHlo.seq_bind_seqK]
  rfl

/-- The buffers the line writes, in order. -/
def written : List (Ref sig .tc) := [main_v0, main_v1, main_v2, main_v3, main_v4, main_v5, main_v6, main_v7, main_v8, main_v9, main_v10, main_cst, main_v11, main_v12, main_cst_0, main_v13, main_v14, main_cst_1, main_v15, main_v16, main_v17, main_cst_2, main_v18, main_v19, main_v20, main_v21, main_cst_3, main_v22, main_v23, main_v24, main_cst_4, main_v25, main_v26, main_v27, main_cst_5, main_v28, main_v29, main_v30, main_v31, main_cst_6, main_v32, main_v33, main_v34, main_v35, main_v36, main_v37, main_v38, main_v39, main_v40, main_v41, main_v42, main_v43, main_v44, main_v45, main_v46]

theorem host_writes : (hostOps (F := F)).Forall fun op => op.writes ⊆ (written.map (Proc.devRef (τ := τ) .tc)).toFinset :=
  StableHlo.forall_writes_sub_of_map rfl

theorem host_fresh : ∀ op ∈ hostOps (F := F), op.fresh = ∅ := List.forall_iff_forall_mem.mp (StableHlo.forall_fresh_of_map rfl)

theorem host_bufs : ∀ op ∈ hostOps (F := F), op.bufs ⊆ Pipeline.ucRefs τ sig := by
  intro op h
  refine Pipeline.sub_ucRefs op ?_
  simp only [hostOps, List.mem_cons, List.not_mem_nil, or_false] at h
  rcases h with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals simp only [StableHlo.unary_bufs_sub, StableHlo.binary_bufs_sub, StableHlo.nullary_bufs_sub, StableHlo.nary_bufs_sub, StableHlo.reshape_bufs_sub]

/-- The line leaves `x` alone, -/
theorem host_x (V : Valuation τ sig (Elt F)) : after (hostOps (F := F)) V (Proc.devRef .tc main_arg0) = V (Proc.devRef .tc main_arg0) :=
  StableHlo.after_of_writes_sub _ _ host_writes (by decide +kernel)

/-- and the knots' values. -/
theorem host_values (V : Valuation τ sig (Elt F)) : after (hostOps (F := F)) V (Proc.devRef .tc main_arg1) = V (Proc.devRef .tc main_arg1) :=
  StableHlo.after_of_writes_sub _ _ host_writes (by decide +kernel)

end Cert.Proof.Spline

end
-- ==== Proof.Launch.lean ====
/-
  The launch: the arrays dealt to the thirty-two tasks and collected from them, `main` on the TensorCore, and the whole
  program's run — the result at the kernel's values, the arguments as they were, every semaphore at zero.
-/
module

public import proofs.«01_k».proof.Proof.Host
public import Idealize.ShloMosaic.Lib.Ring

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (seq seqK after held)

/-! ## The arrays -/

abbrev xLoc (d : Dev nD) : Loc nD τ sig := (SparseCore.T d).loc main_arg0
abbrev pLoc (d : Dev nD) : Loc nD τ sig := (SparseCore.T d).loc main_arg1
abbrev tLoc (d : Dev nD) : Loc nD τ sig := (SparseCore.T d).loc main_v46
abbrev oLoc (d : Dev nD) : Loc nD τ sig := (SparseCore.T d).loc main_v47

/-- A task's coordinates: its SparseCore, its subcore. -/
def coords (c : Fin 2) (s : Fin 16) : grid0.Coords :=
  fun | 0 => c | 1 => s | ⟨_ + 2, h⟩ => absurd h (Nat.not_lt.2 (Nat.le_add_left _ _))

/-! ## A read share for each of many readers -/

/-- What is left of a share once `k` readers have taken theirs. -/
def rest (q : PosShare TreeShare) : ℕ → PosShare TreeShare
  | 0 => q
  | k + 1 => (rest q k).left

/-- The share of reader `k`. -/
def taken (q : PosShare TreeShare) (k : ℕ) : PosShare TreeShare := (rest q k).right

omit [FloatOps F] in
/-- An array held at a share serves `n` readers and is still held at what is left. -/
theorem deal_range {ℓ : Loc nD τ sig} (f : Buf (Elt F) ℓ) (q : PosShare TreeShare) (n : ℕ) :
    (ℓ ↦{q} f : sProp 𝕄) ⊢ iprop((bigSep (Finset.range n) fun k => ℓ ↦{taken q k} f) ∗ ℓ ↦{rest q n} f) := by
  induction n with
  | zero =>
    rw [Finset.range_zero, bigSep_empty]
    iintro H
    isplitr; · iempintro
    iexact H
  | succ n ih =>
    refine ih.trans ?_
    rw [Finset.range_add_one, SparseCore.bigSep_insert' Finset.notMem_range_self]
    iintro ⟨Hs, H⟩
    ihave H := (pointsTo_share (PosShare.mem_left_op_right (rest q n))).1 $$ H
    icases H with ⟨Hl, Hr⟩
    isplitl [Hs Hr]
    · isplitl [Hr]; · iexact Hr
      iexact Hs
    iexact Hl

omit [FloatOps F] in
/-- An array held at a share serves `n` readers, numbered. -/
theorem deal {ℓ : Loc nD τ sig} (f : Buf (Elt F) ℓ) (q : PosShare TreeShare) (n : ℕ) :
    (ℓ ↦{q} f : sProp 𝕄) ⊢ bigSep Finset.univ fun k : Fin n => ℓ ↦{taken q k.val} f := by
  rw [Ring.bigSep_fin_eq_range n _ (fun k => ℓ ↦{taken q k} f) fun _ _ => rfl]
  exact (deal_range f q n).trans sep_elim_left

/-- The share of the coefficient array that a task reads. -/
def tq (c : Fin 2) (s : Fin 16) : PosShare TreeShare := taken (taken fullShare c.val) s.val

/-! ## The blocks of rows cover the array, each once -/

theorem mem_rowsS {r : ℕ} {i : S16384x200.Idx} : i ∈ rowsS r ↔ r ≤ (i 0).val ∧ (i 0).val < r + 64 := by
  simp [rowsS]

theorem row_coords (c : Fin 2) (s : Fin 16) (b : ℕ) : row (coords c s) b = 1024 * s.val + 512 * c.val + 64 * b := rfl

/-- A task's rows. -/
def tileRows (c : Fin 2) (s : Fin 16) : Finset S16384x200.Idx := (Finset.range 8).biUnion fun b => rowsS (row (coords c s) b)

theorem mem_tileRows {c : Fin 2} {s : Fin 16} {i : S16384x200.Idx} :
    i ∈ tileRows c s ↔ 1024 * s.val + 512 * c.val ≤ (i 0).val ∧ (i 0).val < 1024 * s.val + 512 * c.val + 512 := by
  simp only [tileRows, Finset.mem_biUnion, Finset.mem_range, mem_rowsS, row_coords]
  constructor
  · rintro ⟨b, hb, h⟩; omega
  · intro h
    exact ⟨((i 0).val - (1024 * s.val + 512 * c.val)) / 64, by omega, by omega⟩

/-- A SparseCore's rows. -/
def coreRows (c : Fin 2) : Finset S16384x200.Idx := Finset.univ.biUnion fun s => tileRows c s

theorem mem_coreRows {c : Fin 2} {i : S16384x200.Idx} : i ∈ coreRows c ↔ (i 0).val % 1024 / 512 = c.val := by
  have hi : (i 0).val < 16384 := (i 0).isLt
  have hc := c.isLt
  simp only [coreRows, Finset.mem_biUnion, Finset.mem_univ, true_and]
  constructor
  · rintro ⟨s, h⟩
    have hs := s.isLt
    rw [mem_tileRows] at h
    omega
  · intro h
    refine ⟨⟨(i 0).val / 1024, by omega⟩, mem_tileRows.mpr ?_⟩
    show 1024 * ((i 0).val / 1024) + 512 * c.val ≤ _ ∧ _ < 1024 * ((i 0).val / 1024) + 512 * c.val + 512
    omega

theorem blocks_disjoint (c : Fin 2) (s : Fin 16) : ∀ a ∈ Finset.range 8, ∀ b ∈ Finset.range 8, a ≠ b →
    Disjoint (rowsS (row (coords c s) a)) (rowsS (row (coords c s) b)) := fun a _ b _ h =>
  Finset.disjoint_left.mpr fun i ha hb => h (by
    rw [mem_rowsS, row_coords] at ha hb
    omega)

theorem tiles_disjoint (c : Fin 2) : ∀ a ∈ (Finset.univ : Finset (Fin 16)), ∀ b ∈ (Finset.univ : Finset (Fin 16)), a ≠ b →
    Disjoint (tileRows c a) (tileRows c b) := fun a _ b _ h =>
  Finset.disjoint_left.mpr fun i ha hb => h (Fin.ext (by
    rw [mem_tileRows] at ha hb
    omega))

theorem cores_disjoint : ∀ a ∈ (Finset.univ : Finset (Fin 2)), ∀ b ∈ (Finset.univ : Finset (Fin 2)), a ≠ b →
    Disjoint (coreRows a) (coreRows b) := fun a _ b _ h =>
  Finset.disjoint_left.mpr fun i ha hb => h (Fin.ext ((mem_coreRows.mp ha).symm.trans (mem_coreRows.mp hb)))

theorem cores_cover : (Finset.univ : Finset (Fin 2)).biUnion coreRows = Finset.univ := by
  ext i
  simp only [Finset.mem_biUnion, Finset.mem_univ, true_and, iff_true]
  exact ⟨⟨(i 0).val % 1024 / 512, by omega⟩, mem_coreRows.mpr rfl⟩

omit [FloatOps F] in
/-- An array is its blocks, where the blocks of a task, the tasks of a SparseCore and the SparseCores share nothing and
    the SparseCores cover it. -/
theorem pointsTo_blocks {ℓ : Loc nD τ sig} (A : Fin 2 → Fin 16 → ℕ → Finset (Idx ℓ)) (B : Fin 2 → Fin 16 → Finset (Idx ℓ)) (C : Fin 2 → Finset (Idx ℓ))
    (eB : ∀ c s, B c s = (Finset.range 8).biUnion (A c s)) (eC : ∀ c, C c = Finset.univ.biUnion (B c)) (e : Finset.univ.biUnion C = Finset.univ)
    (hA : ∀ c s, ∀ a ∈ Finset.range 8, ∀ b ∈ Finset.range 8, a ≠ b → Disjoint (A c s a) (A c s b))
    (hB : ∀ c, ∀ a ∈ (Finset.univ : Finset (Fin 16)), ∀ b ∈ (Finset.univ : Finset (Fin 16)), a ≠ b → Disjoint (B c a) (B c b))
    (hC : ∀ a ∈ (Finset.univ : Finset (Fin 2)), ∀ b ∈ (Finset.univ : Finset (Fin 2)), a ≠ b → Disjoint (C a) (C b)) (f : Buf (Elt F) ℓ) :
    (ℓ ↦{fullShare} f : sProp 𝕄) = bigSep Finset.univ fun c => bigSep Finset.univ fun s => bigSep (Finset.range 8) fun b => ℓ ↦[A c s b]{fullShare} f := by
  rw [← e, pointsTo_biUnion _ _ hC]
  refine bigSep_congr fun c _ => ?_
  rw [eC c, pointsTo_biUnion _ _ (hB c)]
  refine bigSep_congr fun s _ => ?_
  rw [eB c s, pointsTo_biUnion _ _ (hA c s)]

omit [FloatOps F] in
/-- `x` is the tasks' blocks of its rows, -/
theorem x_blocks (d : Dev nD) (x : S16384x200.Idx → F .f32) :
    (xLoc d ↦{fullShare} x : sProp 𝕄) = bigSep Finset.univ fun c => bigSep Finset.univ fun s => bigSep (Finset.range 8) fun b => xpart d (coords c s) x (row (coords c s) b) :=
  pointsTo_blocks (ℓ := xLoc d) (fun c s b => rowsS (row (coords c s) b)) tileRows coreRows (fun _ _ => rfl) (fun _ => rfl) cores_cover
    blocks_disjoint tiles_disjoint cores_disjoint x

omit [FloatOps F] in
/-- and the result is the tasks' blocks of its own. -/
theorem o_blocks (d : Dev nD) (f : S16384x200.Idx → F .f32) :
    (oLoc d ↦{fullShare} f : sProp 𝕄) = bigSep Finset.univ fun c => bigSep Finset.univ fun s => bigSep (Finset.range 8) fun b => opart d (coords c s) f (row (coords c s) b) :=
  pointsTo_blocks (ℓ := oLoc d) (fun c s b => rowsS (row (coords c s) b)) tileRows coreRows (fun _ _ => rfl) (fun _ => rfl) cores_cover
    blocks_disjoint tiles_disjoint cores_disjoint f

omit [FloatOps F] in
/-- The coefficient array serves the thirty-two tasks. -/
theorem t_shares (d : Dev nD) (t : S4x1024.Idx → F .f32) :
    (tLoc d ↦{fullShare} t : sProp 𝕄) ⊢ bigSep Finset.univ fun c => bigSep Finset.univ fun s => tpart d (coords c s) (tq c s) t :=
  (deal (ℓ := tLoc d) t fullShare 2).trans (BI.bigSep_mono fun c _ => deal (ℓ := tLoc d) t (taken fullShare c.val) 16)

omit [FloatOps F] in
/-- What the tasks are handed together, out of the arrays. -/
theorem goTiles (d : Dev nD) (t : S4x1024.Idx → F .f32) (x f : S16384x200.Idx → F .f32) :
    iprop((tLoc d ↦{fullShare} t) ∗ (xLoc d ↦{fullShare} x) ∗ oLoc d ↦{fullShare} f)
      ⊢ (bigSep Finset.univ fun c => bigSep Finset.univ fun s => goTile d (coords c s) (tq c s) t x : sProp 𝕄) := by
  rw [x_blocks, o_blocks]
  refine (sep_mono (t_shares d t) .rfl).trans ?_
  rw [← bigSep_sep', ← bigSep_sep']
  refine BI.bigSep_mono fun c _ => ?_
  rw [← bigSep_sep', ← bigSep_sep']
  refine BI.bigSep_mono fun s _ => ?_
  show iprop(tpart d (coords c s) (tq c s) t ∗ (bigSep (Finset.range 8) fun b => xpart d (coords c s) x (row (coords c s) b))
      ∗ bigSep (Finset.range 8) fun b => opart d (coords c s) f (row (coords c s) b)) ⊢ goTile d (coords c s) (tq c s) t x
  unfold goTile
  iintro ⟨Ht, Hx, Ho⟩
  isplitl [Ht]; · iexact Ht
  isplitl [Hx]; · iexact Hx
  iapply (show (bigSep (Finset.range 8) fun b => opart d (coords c s) f (row (coords c s) b) : sProp 𝕄)
    ⊢ bigSep (Finset.range 8) fun b => iprop(∃ f, opart d (coords c s) f (row (coords c s) b)) from BI.bigSep_mono fun b _ =>
      show opart d (coords c s) f (row (coords c s) b) ⊢ iprop(∃ f, opart d (coords c s) f (row (coords c s) b)) by
        iintro H; iexists f; iexact H)
  iexact Ho

/-- What the tasks hand back together: `x`, and the result at the kernel's values. -/
theorem tdTiles (d : Dev nD) (t : S4x1024.Idx → F .f32) (x : S16384x200.Idx → F .f32) :
    (bigSep Finset.univ fun c => bigSep Finset.univ fun s => tdTile d (coords c s) (tq c s) t x : sProp 𝕄)
      ⊢ iprop((xLoc d ↦{fullShare} x) ∗ oLoc d ↦{fullShare} result t x) := by
  rw [x_blocks, o_blocks, ← bigSep_sep']
  refine BI.bigSep_mono fun c _ => ?_
  rw [← bigSep_sep']
  refine BI.bigSep_mono fun s _ => ?_
  show tdTile d (coords c s) (tq c s) t x ⊢ iprop((bigSep (Finset.range 8) fun b => xpart d (coords c s) x (row (coords c s) b))
      ∗ bigSep (Finset.range 8) fun b => opart d (coords c s) (result t x) (row (coords c s) b))
  unfold tdTile
  iintro ⟨-, Hx, Ho⟩
  isplitl [Hx]; · iexact Hx
  iexact Ho

/-! ## What the handshakes carry -/

variable (m : (ℓ : Loc nD τ sig) → Buf (Elt F) ℓ) (ρ : Dev nD → PrngReg)

/-- The device's buffers at the launch, and after the line before the call. -/
abbrev V₀ (d : Dev nD) : Valuation τ sig (Elt F) := fun b => m (d, b)
abbrev V₁ (d : Dev nD) : Valuation τ sig (Elt F) := after (hostOps (F := F)) (V₀ m d)

/-- The coefficient array the line leaves for the kernel. -/
def tbl (d : Dev nD) : S4x1024.Idx → F .f32 := V₁ m d (Proc.devRef .tc main_v46)

/-- What the program computes. -/
def outv (d : Dev nD) : S16384x200.Idx → F .f32 := result (tbl m d) (m (xLoc d))

def handed (d : Dev nD) (c : Fin 2) (s : Fin 16) : sProp 𝕄 := goTile d (coords c s) (tq c s) (tbl m d) (m (xLoc d))
def returned (d : Dev nD) (c : Fin 2) (s : Fin 16) : sProp 𝕄 := tdTile d (coords c s) (tq c s) (tbl m d) (m (xLoc d))

instance (d : Dev nD) (c : Fin 2) (s : Fin 16) : BI.Storable (upEmb : UEmb _ 𝕄) (handed m d c s) := by
  unfold handed goTile tpart xpart opart; infer_instance
instance (d : Dev nD) (c : Fin 2) (s : Fin 16) : BI.Storable (upEmb : UEmb _ 𝕄) (returned m d c s) := by
  unfold returned tdTile tpart xpart opart; infer_instance

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with
    | 0 => bigSep Finset.univ fun s : Fin 16 => handed m d (Fin.cast nCore_zero c) s
  dn := fun q d c => match q with
    | 0 => bigSep Finset.univ fun s : Fin 16 => returned m d (Fin.cast nCore_zero c) s
  go := fun q d c i => match q with
    | 0 => handed m d (Fin.cast nCore_zero c) (Fin.cast nSub_zero i)
  td := fun q d c i => match q with
    | 0 => returned m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => handed m d (Fin.cast nCore_zero c) s))
  dn q d c := match q with
    | 0 => (inferInstance : BI.Storable (upEmb : UEmb _ 𝕄) (bigSep Finset.univ fun s : Fin 16 => returned m d (Fin.cast nCore_zero c) s))
  go q d c i := match q with
    | 0 => (inferInstance : BI.Storable (upEmb : UEmb _ 𝕄) (handed m d (Fin.cast nCore_zero c) (Fin.cast nSub_zero i)))
  td q d c i := match q with
    | 0 => (inferInstance : BI.Storable (upEmb : UEmb _ 𝕄) (returned m d (Fin.cast nCore_zero c) (Fin.cast nSub_zero i)))

/-! ## The tasks -/

theorem defs₀_vector (c : Fin τ.nSC) (s : Fin τ.nSub) :
    defs₀ (F := F) (.scVector c s) 0 ()
      = SparseCore.onTile hcore0 hsub0 (fun c s => cc0__spline_body (coords c s) tV (Memref.isWhole_whole _) xV (Memref.isWhole_whole _) oV (Memref.isWhole_whole _)
          aV (Memref.isWhole_whole _) bV (Memref.isWhole_whole _) cV (Memref.isWhole_whole _) dV (Memref.isWhole_whole _) xbV (Memref.isWhole_whole _)
          obV (Memref.isWhole_whole _) cc0_scratch6 cc0_scratch7 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call does what it is asked. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coords ⟨_, hci.1⟩ ⟨_, hci.2⟩) hF _ _ _ O W hO).trans (wp_mono frame _ _ fun _ => obl_post)

/-- A SparseCore's sequencer passes each task its own. -/
theorem vecSplit : (K (F := F)).VecSplit' (P m) 0 := by
  intro d c
  show (bigSep Finset.univ fun s : Fin 16 => handed m d (Fin.cast nCore_zero c) s) ⊢ |={Set.univ}=> iprop(
      (bigSep Finset.univ fun s : Fin 16 => handed m d (Fin.cast nCore_zero c) s)
      ∗ ((bigSep Finset.univ fun s : Fin 16 => returned m d (Fin.cast nCore_zero c) s) -∗ bigSep Finset.univ fun s : Fin 16 => returned m d (Fin.cast nCore_zero c) s))
  iintro H; imodintro
  isplitl [H]; · iexact H
  iintro H; iexact H

/-! ## The launch element of the ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## `main` on the TensorCore -/

/-- The four arrays of the call out of the device's buffers. -/
theorem held_four (d : Dev nD) (W : Valuation τ sig (Elt F)) (x : Buf (Elt F) (xLoc d)) (p : Buf (Elt F) (pLoc d))
    (hx : W (Proc.devRef .tc main_arg0) = x) (hp : W (Proc.devRef .tc main_arg1) = p) :
    (held (SparseCore.T d) (Pipeline.ucRefs τ sig) W : sProp 𝕄)
      ⊢ iprop((tLoc d ↦{fullShare} W (Proc.devRef .tc main_v46)) ∗ (xLoc d ↦{fullShare} x)
        ∗ (oLoc d ↦{fullShare} W (Proc.devRef .tc main_v47)) ∗ pLoc d ↦{fullShare} p) := by
  subst hx hp
  unfold held
  rw [bigSep_pull _ [Proc.devRef .tc main_v46, Proc.devRef .tc main_arg0, Proc.devRef .tc main_v47, Proc.devRef .tc main_arg1] _ (by decide +kernel) (by decide +kernel)]
  simp only [List.foldr_cons, List.foldr_nil]
  iintro ⟨Ht, Hx, Ho, Hp, -⟩
  isplitl [Ht]; · iexact Ht
  isplitl [Hx]; · iexact Hx
  isplitl [Ho]; · iexact Ho
  iexact Hp

/-- What `main` ends with: the result at the kernel's values, the arguments as they were. -/
abbrev FIN (d : Dev nD) : sProp 𝕄 :=
  iprop((oLoc d ↦{fullShare} outv m d) ∗ (xLoc d ↦{fullShare} m (xLoc d)) ∗ pLoc d ↦{fullShare} m (pLoc d))

omit [FloatOps F] in
/-- A family over `Fin k` summed over `Fin n`, the two being one. -/
theorem bigSep_cast {n k : ℕ} (h : n = k) (Φ : Fin k → sProp 𝕄) : (bigSep Finset.univ fun c : Fin n => Φ (Fin.cast h c)) = bigSep Finset.univ Φ := by
  subst h; rfl

attribute [local irreducible] handed returned in
theorem P_st (d : Dev nD) (c : Fin ((K (F := F)).nCore 0)) :
    (P m).st 0 d c = bigSep Finset.univ fun s : Fin 16 => handed m d (Fin.cast nCore_zero c) s := rfl

attribute [local irreducible] handed returned in
theorem P_dn (d : Dev nD) (c : Fin ((K (F := F)).nCore 0)) :
    (P m).dn 0 d c = bigSep Finset.univ fun s : Fin 16 => returned m d (Fin.cast nCore_zero c) s := rfl

/-- What the call takes, out of the arrays, -/
theorem st_main (d : Dev nD) (f : S16384x200.Idx → F .f32) :
    iprop((tLoc d ↦{fullShare} tbl m d) ∗ (xLoc d ↦{fullShare} m (xLoc d)) ∗ oLoc d ↦{fullShare} f)
      ⊢ (bigSep Finset.univ fun c : Fin ((K (F := F)).nCore 0) => (P m).st 0 d c : sProp 𝕄) := by
  rw [show (fun c : Fin ((K (F := F)).nCore 0) => (P m).st 0 d c) = fun c => bigSep Finset.univ fun s : Fin 16 => handed m d (Fin.cast nCore_zero c) s from funext (P_st m d),
    bigSep_cast nCore_zero fun c => bigSep Finset.univ fun s : Fin 16 => handed m d c s]
  unfold handed
  exact goTiles d _ _ f

/-- and what it gives back. -/
theorem dn_main (d : Dev nD) : (bigSep Finset.univ fun c : Fin ((K (F := F)).nCore 0) => (P m).dn 0 d c : sProp 𝕄)
    ⊢ iprop((xLoc d ↦{fullShare} m (xLoc d)) ∗ oLoc d ↦{fullShare} outv m d) := by
  rw [show (fun c : Fin ((K (F := F)).nCore 0) => (P m).dn 0 d c) = fun c => bigSep Finset.univ fun s : Fin 16 => returned m d (Fin.cast nCore_zero c) s from funext (P_dn m d),
    bigSep_cast nCore_zero fun c => bigSep Finset.univ fun s : Fin 16 => returned m d c s]
  unfold returned outv
  exact tdTiles d _ _

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = (held (SparseCore.T d) (Pipeline.ucRefs τ sig) (V₀ m d) : sProp 𝕄)
    from Pipeline.unscopedBufs_held d (V₀ m d), main_eq]
  iintro ⟨#Hctx, Hst, ⟨Hb, Hh, Hts, -⟩, -⟩
  iapply (StableHlo.wp_seq 𝒱 none Set.univ d (Pipeline.ucRefs τ sig) _ (hostOps (F := F)) host_bufs host_fresh (V₀ m d)) $$ [Hb Hh]
  · isplitl [Hb]; · iexact Hb
    iexact Hh
  iintro ⟨Hb, Hh⟩
  ihave H := (held_four d (V₁ m d) (m (xLoc d)) (m (pLoc d)) (host_x (V₀ m d)) (host_values (V₀ m d))) $$ Hh
  icases H with ⟨Ht, Hx, Ho, Hp⟩
  simp only [wp_bind, wp_pure]
  iapply ((K (F := F)).wp_run (D (F := F)) 𝒱 (EH := EH) (P := P m) κ d 0) $$ [Hst Ht Hx Ho Hp Hb Hts]
  isplitr; · iexact Hctx
  isplitl [Hst]; · iexact Hst
  isplitl [Ht Hx Ho]
  · iapply (st_main m d (V₁ m d (Proc.devRef .tc main_v47)))
    isplitl [Ht]; · iexact Ht
    isplitl [Hx]; · iexact Hx
    iexact Ho
  iintro ⟨Hst, Hdn⟩
  ihave H := (dn_main m d) $$ Hdn
  icases H with ⟨Hx, Ho⟩
  imodintro
  isplitl [Hst]; · iexact Hst
  isplitr [Hb Hts]
  · isplitl [Ho]; · iexact Ho
    isplitl [Hx]; · iexact Hx
    iexact Hp
  isplitl [Hb] <;> iassumption

/-! ## The program's run -/

def fq (d : Dev nD) (s' : Phys nD τ sig (Elt F)) : Prop :=
  s'.mem.mem (oLoc d) = outv m d ∧ s'.mem.mem (xLoc d) = m (xLoc d) ∧ s'.mem.mem (pLoc d) = m (pLoc d)

theorem hfin (d : Dev nD) (s' : Phys nD τ sig (Elt F)) : iprop(FIN m d ∗ SI s') ⊢ (⌜fq m d s'⌝ : sProp 𝕄) := by
  iintro ⟨⟨Ho, Hx, Hp⟩, HSI⟩
  ihave H := (persistent_entails_right (SI_pointsTo_agree (st := s') (ℓ := oLoc d) (I := Finset.univ) (q := fullShare) (f := outv m d))) $$ [HSI Ho]
  · isplitl [HSI] <;> iassumption
  icases H with ⟨%h0, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := pLoc d) (I := Finset.univ) (q := fullShare) (f := m (pLoc d))) $$ [HSI Hp]
  · isplitl [HSI] <;> iassumption
  icases H with %h2
  ipureintro
  exact ⟨funext fun i => h0 i (Finset.mem_univ i), funext fun i => h1 i (Finset.mem_univ i), funext fun i => h2 i (Finset.mem_univ i)⟩

/-- How the program ends: on every device the result at the kernel's values, the arguments as they were; every semaphore
    at zero. -/
def QC : PUnit × MemSt nD τ sig (Elt F) → Prop := fun r =>
  (∀ c : Dev nD, r.2.mem (oLoc c) = outv m c ∧ r.2.mem (xLoc c) = m (xLoc c) ∧ r.2.mem (pLoc c) = m (pLoc c)) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Spline

end
-- ==== Proof.Numbers.lean ====
/-
  The words and the real numbers of a lookup: the knot before a number in [0, 1], and the constants of both programs.
-/
module

public import proofs.«01_k».proof.Proof.Piece
public import Idealize.ShloMosaic.Lib.IdealHost

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The value at knot `q`; past the last knot, the last one's. -/
def val (v : S64.Idx → F .f32) (q : ℕ) : F .f32 := v (ix1 ⟨min q 63, by omega⟩)

/-- The spline between the knots around `r`, of values `u` at the knots: the cubic that passes through the two knots'
    values with the central differences there as its slopes. -/
def spline (u : ℕ → EReal) (k : ℕ) (t : ℝ) : EReal :=
  u k + ((1 / 2 : ℝ) : EReal) * (u (k + 1) - u (k - 1)) * (t : EReal)
    + ((1 / 2 : ℝ) : EReal) * (((2 : ℝ) : EReal) * u (k - 1) - ((5 : ℝ) : EReal) * u k + ((4 : ℝ) : EReal) * u (k + 1) - u (k + 2))
      * ((t : EReal) * (t : EReal))
    + ((1 / 2 : ℝ) : EReal) * (-u (k - 1) + ((3 : ℝ) : EReal) * u k - ((3 : ℝ) : EReal) * u (k + 1) + u (k + 2))
      * ((t : EReal) * (t : EReal) * (t : EReal))

/-- At a real number that is not negative a cubic's nested form is the sum of its powers, whatever the coefficients:
    multiplication by such a number distributes over every sum of extended reals. -/
theorem nested (a b c d : EReal) {t : ℝ} (h : 0 ≤ t) :
    ((d * (t : EReal) + c) * (t : EReal) + b) * (t : EReal) + a
      = a + b * (t : EReal) + c * ((t : EReal) * (t : EReal)) + d * ((t : EReal) * (t : EReal) * (t : EReal)) := by
  have dist : ∀ y z : EReal, (y + z) * (t : EReal) = y * (t : EReal) + z * (t : EReal) := fun y z =>
    EReal.right_distrib_of_nonneg_of_ne_top (by exact_mod_cast h) (EReal.coe_ne_top t) y z
  simp only [dist, mul_assoc]
  abel

/-- The knot before `r` in [0, 1], of the 64 knots at `0, 1/63, …, 1`; the last interval is closed. -/
def bin (r : ℝ) : ℕ := min ⌊r * 63⌋₊ 62

theorem bin_le (r : ℝ) : bin r ≤ 62 := min_le_right _ _

/-- A number in [0, 1] does not lie before its knot. -/
theorem frac_nonneg {r : ℝ} (h0 : 0 ≤ r) : 0 ≤ r * 63 - bin r := by
  have h : ((bin r : ℕ) : ℝ) ≤ (⌊r * 63⌋₊ : ℕ) := by exact_mod_cast min_le_left _ _
  have := Nat.floor_le (a := r * 63) (by positivity)
  linarith

/-- Conversion to a word truncates a number in [0, 63] to its floor. -/
theorem fptosi_real {t : ℝ} (h0 : 0 ≤ t) (h1 : t ≤ 63) : Ideal.fptosi 32 (t : EReal) = BitVec.ofNat 32 ⌊t⌋₊ := by
  have hn : ⌊t⌋₊ ≤ 63 := Nat.floor_le_of_le (by exact_mod_cast h1)
  rw [Ideal.fptosi, Ideal.toIntClamped_coe, if_pos h0, ← Int.natCast_floor_eq_floor h0]
  rw [show max (-((2 ^ (32 - 1) : ℕ) : ℤ)) (min (((2 ^ (32 - 1) : ℕ) : ℤ) - 1) (⌊t⌋₊ : ℤ)) = (⌊t⌋₊ : ℤ) by
    norm_num; omega]
  exact BitVec.ofInt_natCast 32 _

/-- Rounding down first changes nothing. -/
theorem fptosi_floor {t : ℝ} (h0 : 0 ≤ t) (h1 : t ≤ 63) :
    Ideal.fptosi 32 (Ideal.liftRound Int.floor (t : EReal)) = BitVec.ofNat 32 ⌊t⌋₊ := by
  have hn : ⌊t⌋₊ ≤ 63 := Nat.floor_le_of_le (by exact_mod_cast h1)
  have e : ((⌊t⌋ : ℤ) : ℝ) = ((⌊t⌋₊ : ℕ) : ℝ) := by rw [← Int.natCast_floor_eq_floor h0]; exact Int.cast_natCast _
  rw [Ideal.liftRound_coe, e, fptosi_real (Nat.cast_nonneg _) (by exact_mod_cast hn), Nat.floor_natCast]

theorem clamp_low : ∀ n : Fin 64, IntOp.minsi (IntOp.maxsi (BitVec.ofNat 32 n.val) 0#32) 62#32 = BitVec.ofNat 32 (min n.val 62) := by
  decide +kernel

theorem clamp_high : ∀ n : Fin 64, IntOp.minsi 62#32 (IntOp.maxsi 0#32 (BitVec.ofNat 32 n.val)) = BitVec.ofNat 32 (min n.val 62) := by
  decide +kernel

theorem word_before : ∀ k : Fin 63, IntOp.minsi 63#32 (IntOp.maxsi 0#32 (IntOp.subi (BitVec.ofNat 32 k.val) 1#32)) = BitVec.ofNat 32 (k.val - 1) := by
  decide +kernel

theorem word_after : ∀ k : Fin 63, IntOp.minsi 63#32 (IntOp.maxsi 0#32 (IntOp.addi (BitVec.ofNat 32 k.val) 1#32)) = BitVec.ofNat 32 (k.val + 1) := by
  decide +kernel

theorem word_second : ∀ k : Fin 63, IntOp.minsi 63#32 (IntOp.maxsi 0#32 (IntOp.addi (BitVec.ofNat 32 k.val) 2#32)) = BitVec.ofNat 32 (min (k.val + 2) 63) := by
  decide +kernel

/-- A knot's number is no negative index. -/
theorem not_wrapped : ∀ n : Fin 64, IntOp.cmpi .slt (BitVec.ofNat 32 n.val) 0#32 = 0#1 := by decide +kernel

/-- A knot's number passes the bounds' test. -/
theorem in_bounds : ∀ n : Fin 64,
    IntOp.andi (IntOp.cmpi .sge (BitVec.ofNat 32 n.val) 0#32) (IntOp.cmpi .sle (BitVec.ofNat 32 n.val) 63#32) = 1#1 := by decide +kernel

theorem index_of : ∀ n : Fin 64, min (BitVec.ofNat 32 n.val).toInt.toNat (64 - 1) = n.val := by decide +kernel

theorem sixty_three : Ideal.ofBits .f32 0x427C0000#32 = ((63 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem three : Ideal.ofBits .f32 0x40400000#32 = ((3 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

theorem five : Ideal.ofBits .f32 0x40A00000#32 = ((5 : ℝ) : EReal) := by
  simp [Ideal.ofBits, Ideal.ieee, -EReal.coe_mul]; norm_num

theorem zero : Ideal.ofBits .f32 0x00000000#32 = ((0 : ℝ) : EReal) := by simp [Ideal.ofBits, Ideal.ieee]

theorem one : Ideal.ofBits .f32 0x3F800000#32 = ((1 : ℝ) : EReal) := by
  simp [Ideal.ofBits, Ideal.ieee, -EReal.coe_mul]; norm_num

/-- The least span that the reference divides by is below one. -/
theorem tiny_le : Ideal.ofBits .f32 0x322BCC77#32 ≤ ((1 : ℝ) : EReal) := by
  simp [Ideal.ofBits, Ideal.ieee, -EReal.coe_mul]
  rw [← EReal.coe_one, EReal.coe_le_coe_iff]; norm_num

/-- The kernel's knot of a number in [0, 1]. -/
theorem knot_real {r : ℝ} (h0 : 0 ≤ r) (h1 : r ≤ 1) : knot (F := Ideal) (r : EReal) = BitVec.ofNat 32 (bin r) := by
  have hn : ⌊r * 63⌋₊ < 64 := Nat.lt_succ_of_le (Nat.floor_le_of_le (by norm_num; linarith))
  have e : FloatOps.fptosi (F := Ideal) (φ := .f32) 32 (FloatOps.mulf (F := Ideal) (φ := .f32) (r : EReal) c63) = BitVec.ofNat 32 ⌊r * 63⌋₊ := by
    show Ideal.fptosi 32 ((r : EReal) * Ideal.ofBits .f32 0x427C0000#32) = _
    rw [sixty_three, ← EReal.coe_mul]
    exact fptosi_real (by positivity) (by linarith)
  unfold knot
  rw [e]
  exact clamp_low ⟨_, hn⟩

/-- … as a number. -/
theorem knot_toNat {r : ℝ} (h0 : 0 ≤ r) (h1 : r ≤ 1) : (knot (F := Ideal) (r : EReal)).toNat = bin r := by
  have := bin_le r
  rw [knot_real h0 h1, BitVec.toNat_ofNat]; omega

/-- A knot's word as a real number. -/
theorem word_real (n : ℕ) (hn : n < 64) : (((BitVec.ofNat 32 n).toInt : ℝ) : EReal) = ((n : ℝ) : EReal) := by
  rw [show (BitVec.ofNat 32 n).toInt = (n : ℤ) by
    rw [BitVec.toInt_eq_toNat_of_lt (by rw [BitVec.toNat_ofNat]; omega), BitVec.toNat_ofNat]; omega]
  rfl

/-- How far a number in [0, 1] lies past its knot, in units of the knots' distance. -/
theorem frac_real {r : ℝ} (h0 : 0 ≤ r) (h1 : r ≤ 1) : frac (F := Ideal) (r : EReal) = ((r * 63 - bin r : ℝ) : EReal) := by
  have hb := bin_le r
  show (r : EReal) * Ideal.ofBits .f32 0x427C0000#32 - (((knot (F := Ideal) (r : EReal)).toInt : ℝ) : EReal) = _
  rw [knot_real h0 h1, word_real _ (by omega), sixty_three, ← EReal.coe_mul, ← EReal.coe_sub]

end Cert.Proof.Spline

end
-- ==== Proof.Range.lean ====
/-
  What the claims' precondition says: the numbers lie in [0, 1].
-/
module

public import proofs.«01_k».proof.Pre_in_range
public import proofs.«01_k».proof.Proof.Numbers
public import Idealize.ShloMosaic.Lib.ReduceAll

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

instance : Subsingleton Cert.Pre_in_range.S_.Idx := ⟨fun a b => funext fun i => i.elim0⟩

/-- A truth value as a word is 1 exactly when it holds. -/
theorem ofBool_one {p : Prop} [Decidable p] (h : BitVec.ofBool (decide p) = 1#1) : p := by
  by_contra hp
  rw [decide_eq_false hp] at h
  exact absurd h (by decide)

/-- An extended real in [0, 1] is a real number in [0, 1]. -/
theorem real_of_unit {x : EReal} (h0 : ((0 : ℝ) : EReal) ≤ x) (h1 : x ≤ ((1 : ℝ) : EReal)) : ∃ r : ℝ, x = (r : EReal) ∧ 0 ≤ r ∧ r ≤ 1 := by
  induction x with
  | bot => exact absurd h0 (by simp)
  | top => exact absurd h1 (not_le.2 (EReal.coe_lt_top 1))
  | coe r => exact ⟨r, rfl, by exact_mod_cast h0, by exact_mod_cast h1⟩

/-- The precondition read back. -/
theorem of_pre [Cert.Pre_in_range.Facts] {x : FVec Ideal S16384x200 .f32} {v : FVec Ideal S64 .f32}
    (h : Cert.Pre_in_range.fn (F := Ideal) x v = fun _ => 1#1) (j : S16384x200.Idx) : ∃ r : ℝ, x j = (r : EReal) ∧ 0 ≤ r ∧ r ≤ 1 := by
  obtain ⟨e1, e2⟩ := IntOp.andi_eq_one.1 (congrFun h ix0)
  refine real_of_unit ?_ ?_
  · rw [← zero]
    exact ofBool_one (Host.reduce_andi_all _ _ _ _ _ e1 j)
  · rw [← one]
    exact ofBool_one (Host.reduce_andi_all _ _ _ _ _ e2 j)

end Cert.Proof.Spline

end
-- ==== Proof.Table.lean ====
/-
  The coefficient array that the program's first lines leave: of each knot four coefficients, each sixteen times in a row.
-/
module

public import proofs.«01_k».proof.Proof.Launch
public import proofs.«01_k».proof.Proof.Numbers
public import Idealize.ShloMosaic.Lib.StableHlo.ReadAt
public import Idealize.ShloMosaic.Lib.Pointwise

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The linear coefficient between knots `q` and `q + 1`. -/
def coefB (v : S64.Idx → F .f32) (q : ℕ) : F .f32 :=
  FloatOps.mulf (FloatOps.ofBits .f32 0x3F000000#32) (FloatOps.subf (val v (q + 1)) (val v (q - 1)))

/-- The quadratic coefficient between knots `q` and `q + 1`. -/
def coefC (v : S64.Idx → F .f32) (q : ℕ) : F .f32 :=
  FloatOps.mulf (FloatOps.ofBits .f32 0x3F000000#32) (FloatOps.subf (FloatOps.addf (FloatOps.subf
    (FloatOps.mulf (FloatOps.ofBits .f32 0x40000000#32) (val v (q - 1)))
    (FloatOps.mulf (FloatOps.ofBits .f32 0x40A00000#32) (val v q)))
    (FloatOps.mulf (FloatOps.ofBits .f32 0x40800000#32) (val v (q + 1)))) (val v (q + 2)))

/-- The cubic coefficient between knots `q` and `q + 1`. -/
def coefD (v : S64.Idx → F .f32) (q : ℕ) : F .f32 :=
  FloatOps.mulf (FloatOps.ofBits .f32 0x3F000000#32) (FloatOps.addf (FloatOps.subf (FloatOps.addf
    (FloatOps.hostNegf (val v (q - 1)))
    (FloatOps.mulf (FloatOps.ofBits .f32 0x40400000#32) (val v q)))
    (FloatOps.mulf (FloatOps.ofBits .f32 0x40400000#32) (val v (q + 1)))) (val v (q + 2)))

theorem read_at (v : S64.Idx → F .f32) {q p : ℕ} (hq : q < 64) (e : q = min p 63) :
    v (Idealize.ShloMosaic.ix1 ⟨q, hq⟩) = val v p := by
  subst e; exact congrArg v (eq_ix1 _)

/-- The values shifted down by one knot, the first repeated. -/
theorem read_before (v : S64.Idx → F .f32) {q : ℕ} (hq : q < 64) (h1 : q < 1 → q < 64) (h2 : ¬ q < 1 → q - 1 < 64) :
    (if h : q < 1 then v (Idealize.ShloMosaic.ix1 ⟨q, h1 h⟩) else v (Idealize.ShloMosaic.ix1 ⟨q - 1, h2 h⟩)) = val v (q - 1) := by
  split <;> exact read_at v _ (by omega)

/-- The values shifted up by one knot, the last repeated. -/
theorem read_after (v : S64.Idx → F .f32) {q : ℕ} (hq : q < 64) (h1 : q < 63 → 1 + q < 64) (h2 : ¬ q < 63 → 63 + (q - 63) < 64) :
    (if h : q < 63 then v (Idealize.ShloMosaic.ix1 ⟨1 + q, h1 h⟩) else v (Idealize.ShloMosaic.ix1 ⟨63 + (q - 63), h2 h⟩))
      = val v (q + 1) := by
  split <;> exact read_at v _ (by omega)

/-- The values shifted up by two knots, the last repeated twice. -/
theorem read_second (v : S64.Idx → F .f32) {q : ℕ} (hq : q < 64) (h1 : q < 62 → 2 + q < 64)
    (h2 : ¬ q < 62 → q - 62 < 1 → 63 + (q - 62) < 64) (h3 : ¬ q < 62 → ¬ q - 62 < 1 → 63 + (q - 62 - 1) < 64) :
    (if h : q < 62 then v (Idealize.ShloMosaic.ix1 ⟨2 + q, h1 h⟩) else
      if h' : q - 62 < 1 then v (Idealize.ShloMosaic.ix1 ⟨63 + (q - 62), h2 h h'⟩)
      else v (Idealize.ShloMosaic.ix1 ⟨63 + (q - 62 - 1), h3 h h'⟩)) = val v (q + 2) := by
  split
  · exact read_at v _ (by omega)
  · split <;> exact read_at v _ (by omega)

variable (m : (ℓ : Loc nD τ sig) → Buf (Elt F) ℓ) (d : Dev nD)

/-- The first row holds the values. -/
theorem tbl_0 (n : Fin 1024) : tbl m d (ix2 (0 : Fin 4) n) = val (m (pLoc d)) (n.val / 16) := by
  have hn : n.val / 16 < 64 := by omega
  unfold tbl V₁ hostOps
  after_reads_simp
  pointwise
  after_reads_at
  exact read_at (m (pLoc d)) hn (by omega)

/-- The second row holds the linear coefficients. -/
theorem tbl_1 (n : Fin 1024) : tbl m d (ix2 (1 : Fin 4) n) = coefB (m (pLoc d)) (n.val / 16) := by
  have hn : n.val / 16 < 64 := by omega
  unfold tbl V₁ hostOps
  after_reads_simp
  pointwise
  after_reads_at
  after_reads_at
  exact congrArg₂ FloatOps.mulf rfl (congrArg₂ FloatOps.subf
    (read_after (m (pLoc d)) hn _ _) (read_before (m (pLoc d)) hn _ _))

/-- The third row holds the quadratic coefficients. -/
theorem tbl_2 (n : Fin 1024) : tbl m d (ix2 (2 : Fin 4) n) = coefC (m (pLoc d)) (n.val / 16) := by
  have hn : n.val / 16 < 64 := by omega
  unfold tbl V₁ hostOps
  after_reads_simp
  pointwise
  after_reads_at
  after_reads_at
  exact congrArg₂ FloatOps.mulf rfl (congrArg₂ FloatOps.subf (congrArg₂ FloatOps.addf (congrArg₂ FloatOps.subf
    (congrArg₂ FloatOps.mulf rfl (read_before (m (pLoc d)) hn _ _))
    (congrArg₂ FloatOps.mulf rfl (read_at (m (pLoc d)) hn (by omega))))
    (congrArg₂ FloatOps.mulf rfl (read_after (m (pLoc d)) hn _ _))) (read_second (m (pLoc d)) hn _ _ _))

/-- The fourth row holds the cubic coefficients. -/
theorem tbl_3 (n : Fin 1024) : tbl m d (ix2 (3 : Fin 4) n) = coefD (m (pLoc d)) (n.val / 16) := by
  have hn : n.val / 16 < 64 := by omega
  unfold tbl V₁ hostOps
  after_reads_simp
  pointwise
  after_reads_at
  after_reads_at
  exact congrArg₂ FloatOps.mulf rfl (congrArg₂ FloatOps.addf (congrArg₂ FloatOps.subf (congrArg₂ FloatOps.addf
    (congrArg FloatOps.hostNegf (read_before (m (pLoc d)) hn _ _))
    (congrArg₂ FloatOps.mulf rfl (read_at (m (pLoc d)) hn (by omega))))
    (congrArg₂ FloatOps.mulf rfl (read_after (m (pLoc d)) hn _ _))) (read_second (m (pLoc d)) hn _ _ _))

end Cert.Proof.Spline

end
-- ==== Proof.Value.lean ====
/-
  What the kernel computes of numbers in [0, 1]: the spline.
-/
module

public import proofs.«01_k».proof.Proof.Table

@[expose] public section

set_option maxRecDepth 16384

noncomputable section

namespace Cert.Proof.Spline

open Cert.KernelIdeal Cert.KernelIdeal.Gen

open Idealize.ShloMosaic hiding ix0 ix1 ix2 ix3 ix4 eq_ix1 eq_ix2 eq_ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt Ideal) ℓ) (d : Dev nD)

theorem lane_lt {q : ℕ} (hq : q < 200) : lane q < 16 := by
  unfold lane
  split <;> omega

/-- A coefficient row read at the entry of a number's knot and a lane. -/
theorem trow_at (t : S4x1024.Idx → Ideal .f32) (r : Fin 4) (n : ℕ) :
    trow t r (at1024 n) = t (ix2 r ⟨n % 1024, Nat.mod_lt _ (by decide)⟩) := rfl

variable {x : ℝ} (h0 : 0 ≤ x) (h1 : x ≤ 1)

include h0 h1 in
/-- The entry's position belongs to the knot before the number. -/
theorem pos_div {l : ℕ} (hl : l < 16) : pos (F := Ideal) (x : EReal) l % 1024 / 16 = bin x := by
  have := bin_le x
  rw [pos_eq _ hl, knot_toNat h0 h1]
  omega

include h0 h1 in
/-- The kernel's result at an index of a number in [0, 1] is the spline. -/
theorem outv_at (j : S16384x200.Idx) (hx : m (xLoc d) j = ((x : ℝ) : EReal)) :
    outv m d j = spline (val (F := Ideal) (m (pLoc d))) (bin x) (x * 63 - bin x) := by
  have hl : lane (j 1).val < 16 := lane_lt (j 1).isLt
  unfold outv result target cell
  rw [hx, trow_at, trow_at, trow_at, trow_at, tbl_0, tbl_1, tbl_2, tbl_3, frac_real h0 h1]
  simp only [pos_div h0 h1 hl]
  unfold cubic coefB coefC coefD
  simp only [Ideal.mulf_def, Ideal.addf_def, Ideal.subf_def, Ideal.hostNegf_def, Ideal.negf_def, Ideal.ofBits_def, half, two, three,
    four, five]
  exact nested _ _ _ _ (frac_nonneg h0)

end Cert.Proof.Spline

end
-- ==== Proof.Reference.lean ====
/-
  What the reference computes of numbers in [0, 1]: the spline.
-/
module

public import proofs.«01_k».proof.Proof.Gen.ReferenceIdeal.Run
public import proofs.«01_k».proof.Proof.Numbers
public import Idealize.ShloMosaic.Lib.ReduceAll

@[expose] public section

set_option maxRecDepth 16384

noncomputable section

namespace Cert.Proof.Spline.Reference

open Cert.ReferenceIdeal Cert.ReferenceIdeal.Gen Cert.ReferenceIdeal.Value
open Idealize.ShloMosaic hiding ix0 ix1 ix2 ix3 ix4 eq_ix1 eq_ix2 eq_ix3
open Idealize.ShloMosaic.ValueIdx Idealize.ShloMosaic.StableHlo

section Take

variable {F : FTy → Type} [FloatOps F]

/-- The start indices of a take at `w`: a negative index counts from the end. -/
abbrev starts (w : IVec S16384x200 32) : IVec S16384x200x1 32 :=
  broadcastInDim S16384x200x1 ![0, 1] bcast_S16384x200_S16384x200x1_0_1
    (select (cmpi .slt w (broadcastInDim S16384x200 ![] bcast_S_S16384x200 (constantI S_ 32 0#32)))
      (addi w (broadcastInDim S16384x200 ![] bcast_S_S16384x200 (constantI S_ 32 64#32))) w)

/-- The values `v` taken at the indices `w`: a value where the index is in range, else a constant. -/
abbrev take (v : FVec F S64 .f32) (w : IVec S16384x200 32) : FVec F S16384x200 .f32 :=
  select (Host.reduce IntOp.andi (andi
      (cmpi .sge (starts w) (broadcastInDim S16384x200x1 ![] bcast_S_S16384x200x1 (constantI S_ 32 0#32)))
      (cmpi .sle (starts w) (broadcastInDim S16384x200x1 ![0, 1, 2] bcast_S1x1x1_S16384x200x1_0_1_2
        (broadcastInDim S1x1x1 ![2] bcast_S1_S1x1x1_2 (constantI S1 32 63#32)))))
      (constantI S_ 1 1#1) reducesTo_S16384x200x1_S16384x200_d2 h_S_)
    (Host.gather gather_S64_S16384x200x1_S16384x200_n_0_n_n_0_2_1 v (starts w))
    (broadcastInDim S16384x200 ![] bcast_S_S16384x200 (constant S_ .f32 0x7FC00000#32))

variable {w : IVec S16384x200 32} {q : S16384x200.Idx → ℕ} (hq : ∀ j, q j < 64) (hw : ∀ j, w j = BitVec.ofNat 32 (q j))

include hq hw in
/-- A start index is the index itself when that is a knot's number. -/
theorem starts_at (i : S16384x200x1.Idx) : starts w i = BitVec.ofNat 32 (q (ix2 (i 0) (i 1))) := by
  have e : starts w i = Scalar.select (IntOp.cmpi .slt (w (ix2 (i 0) (i 1))) 0#32) (IntOp.addi (w (ix2 (i 0) (i 1))) 64#32)
      (w (ix2 (i 0) (i 1))) := by
    have src : ∀ x : IVec S16384x200 32, broadcastInDim S16384x200x1 ![0, 1] bcast_S16384x200_S16384x200x1_0_1 x i = x (ix2 (i 0) (i 1)) := by
      intro x
      unfold broadcastInDim
      refine congrArg x (funext fun a => ?_)
      match a with
      | ⟨0, _⟩ => rfl
      | ⟨1, _⟩ => rfl
    exact (src _).trans rfl
  rw [e, hw, not_wrapped ⟨_, hq _⟩]
  rfl

include hq hw in
/-- A take at knots' numbers reads those knots' values. -/
theorem take_at (v : FVec F S64 .f32) (j : S16384x200.Idx) : take v w j = val v (q j) := by
  have hg : Host.reduce IntOp.andi (andi
      (cmpi .sge (starts w) (broadcastInDim S16384x200x1 ![] bcast_S_S16384x200x1 (constantI S_ 32 0#32)))
      (cmpi .sle (starts w) (broadcastInDim S16384x200x1 ![0, 1, 2] bcast_S1x1x1_S16384x200x1_0_1_2
        (broadcastInDim S1x1x1 ![2] bcast_S1_S1x1x1_2 (constantI S1 32 63#32)))))
      (constantI S_ 1 1#1) reducesTo_S16384x200x1_S16384x200_d2 h_S_ j = 1#1 :=
    Host.reduce_andi_one _ _ _ _ _ rfl fun i => by
      show IntOp.andi (IntOp.cmpi .sge (starts w i) 0#32) (IntOp.cmpi .sle (starts w i) 63#32) = 1#1
      rw [starts_at hq hw]
      exact in_bounds ⟨_, hq _⟩
  show Scalar.select _ _ _ = _
  rw [hg]
  show Host.gather (takeDims 64 16384 200 _) v (starts w) j = _
  rw [gather_take_apply (by decide)]
  refine congrArg v (congrArg ix1 (Fin.ext ?_))
  show min (starts w (takeIdx j)).toInt.toNat (64 - 1) = min (q j) 63
  rw [starts_at hq hw]
  have hj : (ix2 (takeIdx j 0) (takeIdx j 1) : S16384x200.Idx) = j := (eq_ix2 j).symm
  have := hq j
  rw [hj, index_of ⟨_, this⟩]
  exact (min_eq_left (by omega)).symm

end Take

section Value

variable (V : Valuation τ sig (Elt Ideal))

/-- The numbers to look up. -/
def inputs : S16384x200.Idx → EReal := V (Proc.devRef .tc main_arg0)
/-- The values at the knots. -/
def values : S64.Idx → EReal := V (Proc.devRef .tc main_arg1)
/-- The numbers in units of the knots' distance. -/
def scaled : S16384x200.Idx → EReal := res_main_v8 V
/-- The knots before the numbers. -/
def bins : IVec S16384x200 32 := res_main_v11 V
/-- How far the numbers lie past their knots. -/
def fracs : S16384x200.Idx → EReal := res_main_v13 V
/-- The values one knot before. -/
def before : S16384x200.Idx → EReal := res_main_v23 V
/-- The values at the knots before the numbers. -/
def here : S16384x200.Idx → EReal := res_main_v24 V
/-- The values one knot after. -/
def next : S16384x200.Idx → EReal := res_main_v25 V
/-- The values two knots after. -/
def second : S16384x200.Idx → EReal := res_main_v26 V

/-- The indices one knot before. -/
def beforeWords : IVec S16384x200 32 := res_main_v16 V
/-- The indices one knot after. -/
def nextWords : IVec S16384x200 32 := res_main_v19 V
/-- The indices two knots after, the last one's past the end. -/
def secondWords : IVec S16384x200 32 := res_main_v22 V

/-- A constant at every index. -/
abbrev lit (b : BitVec 32) : FVec Ideal S16384x200 .f32 := broadcastInDim S16384x200 ![] bcast_S_S16384x200 (constant S_ .f32 b)

/-- The reference's last lines: the cubic of the four values around each number. -/
def combine (p₀ p₁ p₂ p₃ t t₂ : FVec Ideal S16384x200 .f32) : FVec Ideal S16384x200 .f32 :=
  addf (addf (addf (mulf (lit 0x3F000000#32) (mulf (lit 0x40000000#32) p₁))
      (mulf (mulf (lit 0x3F000000#32) (addf (Host.negf p₀) p₂)) t))
      (mulf (mulf (lit 0x3F000000#32) (subf (addf (subf (mulf (lit 0x40000000#32) p₀)
        (mulf (lit 0x40A00000#32) p₁)) (mulf (lit 0x40800000#32) p₂)) p₃)) t₂))
    (mulf (mulf (lit 0x3F000000#32) (addf (subf (addf (Host.negf p₀) (mulf (lit 0x40400000#32) p₁))
      (mulf (lit 0x40400000#32) p₂)) p₃)) (mulf t₂ t))

theorem negf_at (x : FVec Ideal S16384x200 .f32) (j : S16384x200.Idx) : Host.negf x j = -(x j : EReal) := rfl

theorem lit_at (b : BitVec 32) (j : S16384x200.Idx) : lit b j = Ideal.ofBits .f32 b := rfl

/-- The cubic of four values: it is the spline of any values `u` that agree with the four. -/
theorem combine_at (p₀ p₁ p₂ p₃ t t₂ : FVec Ideal S16384x200 .f32) (j : S16384x200.Idx) {u : ℕ → EReal} {k : ℕ} {r : ℝ}
    (e₀ : p₀ j = u (k - 1)) (e₁ : p₁ j = u k) (e₂ : p₂ j = u (k + 1)) (e₃ : p₃ j = u (k + 2))
    (et : t j = ((r : ℝ) : EReal)) (et₂ : t₂ j = (r : EReal) * (r : EReal)) :
    combine p₀ p₁ p₂ p₃ t t₂ j = spline u k r := by
  have h : ((1 / 2 : ℝ) : EReal) * (((2 : ℝ) : EReal) * u k) = u k := by
    rw [← mul_assoc, ← EReal.coe_mul, show (1 / 2 * 2 : ℝ) = 1 by norm_num, EReal.coe_one, one_mul]
  unfold combine
  simp only [addf_apply, subf_apply, mulf_apply, negf_at, lit_at, Ideal.addf_def, Ideal.subf_def, Ideal.mulf_def]
  rw [e₀, e₁, e₂, e₃, et, et₂, half, two, three, four, five, h, add_comm (-u (k - 1)) (u (k + 1)), ← sub_eq_add_neg]
  rfl

/-- The reference's result, of the contents it starts from. -/
def refv : FVec Ideal S16384x200 .f32 :=
  combine (res_main_v23 V) (res_main_v24 V) (res_main_v25 V) (res_main_v26 V) (res_main_v13 V) (res_main_v27 V)

variable {V} {x : S16384x200.Idx → ℝ}
  (hx : ∀ j, inputs V j = ((x j : ℝ) : EReal))
  (h0 : ∀ j, 0 ≤ x j) (h1 : ∀ j, x j ≤ 1)

include hx h0 h1

/-- The scaled numbers. -/
theorem scaled_at (j : S16384x200.Idx) : scaled V j = ((x j * 63 : ℝ) : EReal) := by
  show Ideal.div (min (Ideal.ofBits .f32 0x3F800000#32) (max (Ideal.ofBits .f32 0x00000000#32)
      (inputs V j)) - Ideal.ofBits .f32 0x00000000#32)
      (max (Ideal.ofBits .f32 0x3F800000#32 - Ideal.ofBits .f32 0x00000000#32) (Ideal.ofBits .f32 0x322BCC77#32))
      * Ideal.ofBits .f32 0x427C0000#32 = _
  rw [hx, zero, one, sixty_three, ← EReal.coe_sub, sub_zero, max_eq_left tiny_le, max_eq_right (by exact_mod_cast h0 j),
    min_eq_right (by exact_mod_cast h1 j), ← EReal.coe_sub, sub_zero, Ideal.div_coe one_ne_zero, ← EReal.coe_mul, ← EReal.coe_mul]
  norm_num

/-- The knots before the numbers. -/
theorem bin_at (j : S16384x200.Idx) : bins V j = BitVec.ofNat 32 (bin (x j)) := by
  have hn : ⌊x j * 63⌋₊ < 64 := Nat.lt_succ_of_le (Nat.floor_le_of_le (by have := h1 j; norm_num; linarith))
  show IntOp.minsi 62#32 (IntOp.maxsi 0#32 (Ideal.fptosi 32 (Ideal.liftRound Int.floor (scaled V j)))) = _
  rw [scaled_at hx h0 h1, fptosi_floor (by have := h0 j; positivity) (by have := h1 j; linarith)]
  exact clamp_high ⟨_, hn⟩

/-- How far the numbers lie past their knots. -/
theorem frac_at (j : S16384x200.Idx) : fracs V j = ((x j * 63 - bin (x j) : ℝ) : EReal) := by
  have hb := bin_le (x j)
  show scaled V j - (((bins V j).toInt : ℝ) : EReal) = _
  rw [scaled_at hx h0 h1, bin_at hx h0 h1, word_real _ (by omega), ← EReal.coe_sub]

/-- The indices one knot before. -/
theorem beforeWords_at (j : S16384x200.Idx) : beforeWords V j = BitVec.ofNat 32 (bin (x j) - 1) := by
  have e : beforeWords V j = IntOp.minsi 63#32 (IntOp.maxsi 0#32 (IntOp.subi (bins V j) 1#32)) := rfl
  rw [e, bin_at hx h0 h1]
  exact word_before ⟨_, Nat.lt_succ_of_le (bin_le _)⟩

/-- The values one knot before. -/
theorem before_at (j : S16384x200.Idx) : before V j = val (F := Ideal) (values V) (bin (x j) - 1) := by
  have e : before V = take (F := Ideal) (values V) (beforeWords V) := rfl
  have hq : ∀ j, (fun j : S16384x200.Idx => bin (x j) - 1) j < 64 := fun j => by
    have := bin_le (x j)
    dsimp only
    omega
  rw [e]
  exact take_at hq (beforeWords_at hx h0 h1) _ j

/-- The values at the knots. -/
theorem here_at (j : S16384x200.Idx) : here V j = val (F := Ideal) (values V) (bin (x j)) := by
  have e : here V = take (F := Ideal) (values V) (bins V) := rfl
  have hq : ∀ j, (fun j : S16384x200.Idx => bin (x j)) j < 64 := fun j => by
    have := bin_le (x j)
    dsimp only
    omega
  rw [e]
  exact take_at hq (bin_at hx h0 h1) _ j

/-- The indices one knot after. -/
theorem nextWords_at (j : S16384x200.Idx) : nextWords V j = BitVec.ofNat 32 (bin (x j) + 1) := by
  have e : nextWords V j = IntOp.minsi 63#32 (IntOp.maxsi 0#32 (IntOp.addi (bins V j) 1#32)) := rfl
  rw [e, bin_at hx h0 h1]
  exact word_after ⟨_, Nat.lt_succ_of_le (bin_le _)⟩

/-- The values one knot after. -/
theorem next_at (j : S16384x200.Idx) : next V j = val (F := Ideal) (values V) (bin (x j) + 1) := by
  have e : next V = take (F := Ideal) (values V) (nextWords V) := rfl
  have hq : ∀ j, (fun j : S16384x200.Idx => bin (x j) + 1) j < 64 := fun j => by
    have := bin_le (x j)
    dsimp only
    omega
  rw [e]
  exact take_at hq (nextWords_at hx h0 h1) _ j

/-- The indices two knots after, the last one's past the end. -/
theorem secondWords_at (j : S16384x200.Idx) : secondWords V j = BitVec.ofNat 32 (min (bin (x j) + 2) 63) := by
  have e : secondWords V j = IntOp.minsi 63#32 (IntOp.maxsi 0#32 (IntOp.addi (bins V j) 2#32)) := rfl
  rw [e, bin_at hx h0 h1]
  exact word_second ⟨_, Nat.lt_succ_of_le (bin_le _)⟩

/-- The values two knots after, the last one's past the end. -/
theorem second_at (j : S16384x200.Idx) : second V j = val (F := Ideal) (values V) (min (bin (x j) + 2) 63) := by
  have e : second V = take (F := Ideal) (values V) (secondWords V) := rfl
  have hq : ∀ j, (fun j : S16384x200.Idx => min (bin (x j) + 2) 63) j < 64 := fun j => by
    have := bin_le (x j)
    dsimp only
    omega
  rw [e]
  exact take_at hq (secondWords_at hx h0 h1) _ j

/-- The reference's result is the spline. -/
theorem refv_at (j : S16384x200.Idx) : refv V j = spline (val (F := Ideal) (values V)) (bin (x j)) (x j * 63 - bin (x j)) := by
  have e : val (F := Ideal) (values V) (min (bin (x j) + 2) 63) = val (F := Ideal) (values V) (bin (x j) + 2) := by
    unfold val; simp only [min_assoc, min_self]
  have et : fracs V j * fracs V j = ((x j * 63 - bin (x j) : ℝ) : EReal) * ((x j * 63 - bin (x j) : ℝ) : EReal) := by
    rw [frac_at hx h0 h1]
  exact combine_at _ _ _ _ _ _ j (before_at hx h0 h1 j) (here_at hx h0 h1 j) (next_at hx h0 h1 j) ((second_at hx h0 h1 j).trans e)
    (frac_at hx h0 h1 j) et

end Value

/-- The reference's run leaves its result as the above and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = refv (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  simp only [refv, combine]
  exact Cert.ReferenceIdeal.Value.run m ρ

end Cert.Proof.Spline.Reference

end
-- ==== Proof.lean ====
/-
  The claims together: the kernel's and the reference's runs end with their arguments as they were and every semaphore at
  zero; and of numbers in [0, 1] both compute, over the reals, the same spline.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Range
public import proofs.«01_k».proof.Proof.Value
public import proofs.«01_k».proof.Proof.Reference

@[expose] public section

namespace Cert.Proof

open Idealize.ShloMosaic Idealize.SL.Sem

/-- The kernel over floats keeps its arguments and ends quiescent: its text is the idealized kernel's, whose run holds for
    any float values. -/
theorem frame_kernel : Cert.quiescent_Kernel := fun m ρ _ =>
  (θ_run Cert.KernelIdeal.defs _ _).mono (fun _ h => ⟨fun c => (h.1 c).2, h.2⟩) (Spline.run_main (F := Bits) m ρ)

/-- The kernel over the reals keeps its arguments and ends quiescent. -/
theorem frame_kernelIdeal : Cert.quiescent_KernelIdeal := fun m ρ _ =>
  (θ_run Cert.KernelIdeal.defs _ _).mono (fun _ h => ⟨fun c => (h.1 c).2, h.2⟩) (Spline.run_main (F := Ideal) m ρ)

/-- The reference over the reals keeps its arguments; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Started on equal arguments within the precondition, the reference's result is the kernel's: both are the spline. -/
theorem refv_eq (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (hpre : Cert.Pre_in_range.fn (F := Ideal) (m (Spline.xLoc c)) (m (Spline.pLoc c)) = fun _ => 1#1)
    (hx : Spline.Reference.inputs V = m (Spline.xLoc c)) (hv : Spline.Reference.values V = m (Spline.pLoc c)) :
    Spline.Reference.refv V = Spline.outv m c := by
  choose x ex h0 h1 using Spline.of_pre hpre
  funext j
  rw [Spline.outv_at m c (h0 j) (h1 j) j (ex j), Spline.Reference.refv_at (fun j => (congrFun hx j).trans (ex j)) h0 h1 j, hv]

/-- Over the reals, of numbers in [0, 1], the kernel and the reference compute the same. -/
theorem value : Cert.algebraic_KernelIdeal_ReferenceIdeal_pre_in_range := fun m g m' g' hpre hagree =>
  ⟨fun c => Spline.outv m c,
    (θ_run Cert.KernelIdeal.defs _ _).mono (fun _ h c => h.1 c) (Spline.run_main (F := Ideal) m g),
    (θ_run Cert.ReferenceIdeal.defs _ _).mono
      (fun _ h c => ⟨(h c).1.trans (refv_eq m (StableHlo.launchContents m' c) c (hpre c) (hagree c).1 (hagree c).2), (h c).2⟩)
      (Spline.Reference.run m' g')⟩

/-- Everything claimed. -/
theorem claim : Cert.Claim := ⟨Cert.Kernel.Gen.facts, Cert.KernelIdeal.Gen.facts, Cert.ReferenceIdeal.Gen.facts,
  Cert.Pre_in_range.Gen.facts, frame_kernel, frame_kernelIdeal, fun m g _ => frame_kernelIdeal m g trivial, frame_referenceIdeal,
  fun m g _ => frame_referenceIdeal m g trivial, trivial, value⟩

end Cert.Proof

end
